-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)) (v4 : (c : Dev Cert.KernelIdeal.nD) → Buf (Elt Ideal) ((c.tc : Thread Cert.KernelIdeal.nD Cert.KernelIdeal.τ).loc Cert.KernelIdeal.main_v24_4)) (v5 : (c : Dev Cert.KernelIdeal.nD) → Buf (Elt Ideal) ((c.tc : Thread Cert.KernelIdeal.nD Cert.KernelIdeal.τ).loc Cert.KernelIdeal.main_v24_5)) (v6 : (c : Dev Cert.KernelIdeal.nD) → Buf (Elt Ideal) ((c.tc : Thread Cert.KernelIdeal.nD Cert.KernelIdeal.τ).loc Cert.KernelIdeal.main_v24_6)) (v7 : (c : Dev Cert.KernelIdeal.nD) → Buf (Elt Ideal) ((c.tc : Thread Cert.KernelIdeal.nD Cert.KernelIdeal.τ).loc Cert.KernelIdeal.main_v24_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_v24_4) = v4 c
          ∧ r.2.mem ((c.tc : Thread Cert.KernelIdeal.nD Cert.KernelIdeal.τ).loc Cert.KernelIdeal.main_v24_5) = v5 c
          ∧ r.2.mem ((c.tc : Thread Cert.KernelIdeal.nD Cert.KernelIdeal.τ).loc Cert.KernelIdeal.main_v24_6) = v6 c
          ∧ r.2.mem ((c.tc : Thread Cert.KernelIdeal.nD Cert.KernelIdeal.τ).loc Cert.KernelIdeal.main_v24_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v135) = v1 c
          ∧ r.2.mem ((c.tc : Thread Cert.ReferenceIdeal.nD Cert.ReferenceIdeal.τ).loc Cert.ReferenceIdeal.main_v206) = v2 c
          ∧ r.2.mem ((c.tc : Thread Cert.ReferenceIdeal.nD Cert.ReferenceIdeal.τ).loc Cert.ReferenceIdeal.main_v277) = v3 c
          ∧ r.2.mem ((c.tc : Thread Cert.ReferenceIdeal.nD Cert.ReferenceIdeal.τ).loc Cert.ReferenceIdeal.main_v70) = v4 c
          ∧ r.2.mem ((c.tc : Thread Cert.ReferenceIdeal.nD Cert.ReferenceIdeal.τ).loc Cert.ReferenceIdeal.main_v141) = v5 c
          ∧ r.2.mem ((c.tc : Thread Cert.ReferenceIdeal.nD Cert.ReferenceIdeal.τ).loc Cert.ReferenceIdeal.main_v212) = v6 c
          ∧ r.2.mem ((c.tc : Thread Cert.ReferenceIdeal.nD Cert.ReferenceIdeal.τ).loc Cert.ReferenceIdeal.main_v283) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S3x256x3x256 : Shape := ⟨4, ![3, 256, 3, 256]⟩
abbrev S3x256x768 : Shape := ⟨3, ![3, 256, 768]⟩
abbrev S3x3x256x256 : Shape := ⟨4, ![3, 3, 256, 256]⟩
abbrev S3x768x256 : Shape := ⟨3, ![3, 768, 256]⟩
abbrev S256x1 : Shape := ⟨2, ![256, 1]⟩
abbrev S1x256 : Shape := ⟨2, ![1, 256]⟩
abbrev S3x256 : Shape := ⟨2, ![3, 256]⟩
abbrev S12x256 : Shape := ⟨2, ![12, 256]⟩
abbrev S15x256 : Shape := ⟨2, ![15, 256]⟩
abbrev S_ : Shape := ⟨0, ![]⟩
abbrev S16x256 : Shape := ⟨2, ![16, 256]⟩
abbrev S256x16 : Shape := ⟨2, ![256, 16]⟩
abbrev S15 : Shape := ⟨1, ![15]⟩
abbrev S16 : Shape := ⟨1, ![16]⟩
abbrev S16x1 : Shape := ⟨2, ![16, 1]⟩
abbrev S1x16 : Shape := ⟨2, ![1, 16]⟩
abbrev S2x64x64x256 : Shape := ⟨4, ![2, 64, 64, 256]⟩
abbrev S2x4096x256 : Shape := ⟨3, ![2, 4096, 256]⟩
abbrev S2x32x32x256 : Shape := ⟨4, ![2, 32, 32, 256]⟩
abbrev S2x1024x256 : Shape := ⟨3, ![2, 1024, 256]⟩
abbrev S2x16x16x256 : Shape := ⟨4, ![2, 16, 16, 256]⟩
abbrev S2x256x256 : Shape := ⟨3, ![2, 256, 256]⟩
abbrev S2x3x16384 : Shape := ⟨3, ![2, 3, 16384]⟩
abbrev S2x12x16384 : Shape := ⟨3, ![2, 12, 16384]⟩
abbrev S2x3x4096 : Shape := ⟨3, ![2, 3, 4096]⟩
abbrev S2x12x4096 : Shape := ⟨3, ![2, 12, 4096]⟩
abbrev S2x3x1024 : Shape := ⟨3, ![2, 3, 1024]⟩
abbrev S2x12x1024 : Shape := ⟨3, ![2, 12, 1024]⟩
abbrev S2x3x256 : Shape := ⟨3, ![2, 3, 256]⟩
abbrev S2x12x256 : Shape := ⟨3, ![2, 12, 256]⟩
abbrev S2x3x128x128 : Shape := ⟨4, ![2, 3, 128, 128]⟩
abbrev S2x12x128x128 : Shape := ⟨4, ![2, 12, 128, 128]⟩
abbrev S2x3x64x64 : Shape := ⟨4, ![2, 3, 64, 64]⟩
abbrev S2x12x64x64 : Shape := ⟨4, ![2, 12, 64, 64]⟩
abbrev S2x3x32x32 : Shape := ⟨4, ![2, 3, 32, 32]⟩
abbrev S2x12x32x32 : Shape := ⟨4, ![2, 12, 32, 32]⟩
abbrev S2x3x16x16 : Shape := ⟨4, ![2, 3, 16, 16]⟩
abbrev S2x12x16x16 : Shape := ⟨4, ![2, 12, 16, 16]⟩
abbrev S2x256x32x128 : Shape := ⟨4, ![2, 256, 32, 128]⟩
abbrev S2x2192x256 : Shape := ⟨3, ![2, 2192, 256]⟩
abbrev S2x1104x256 : Shape := ⟨3, ![2, 1104, 256]⟩
abbrev S2x304x256 : Shape := ⟨3, ![2, 304, 256]⟩
abbrev S2 : Shape := ⟨1, ![2]⟩
abbrev S1 : Shape := ⟨1, ![1]⟩
abbrev S1x256x24x128 : Shape := ⟨4, ![1, 256, 24, 128]⟩
abbrev S256x24x128 : Shape := ⟨3, ![256, 24, 128]⟩
abbrev S1x256x32x128 : Shape := ⟨4, ![1, 256, 32, 128]⟩
abbrev S256x32x128 : Shape := ⟨3, ![256, 32, 128]⟩
abbrev S256x3072 : Shape := ⟨2, ![256, 3072]⟩
abbrev S256x256 : Shape := ⟨2, ![256, 256]⟩
abbrev S256x2304 : Shape := ⟨2, ![256, 2304]⟩
abbrev S256x2560 : Shape := ⟨2, ![256, 2560]⟩
abbrev S256x2559 : Shape := ⟨2, ![256, 2559]⟩
abbrev S256x2048 : Shape := ⟨2, ![256, 2048]⟩
abbrev S768x2048 : Shape := ⟨2, ![768, 2048]⟩
abbrev S1x256x768 : Shape := ⟨3, ![1, 256, 768]⟩
abbrev S256x768 : Shape := ⟨2, ![256, 768]⟩
abbrev S1x2048 : Shape := ⟨2, ![1, 2048]⟩
abbrev S16x2048 : Shape := ⟨2, ![16, 2048]⟩
abbrev S3x2048 : Shape := ⟨2, ![3, 2048]⟩
abbrev S1x3x2048 : Shape := ⟨3, ![1, 3, 2048]⟩
abbrev S12x2048 : Shape := ⟨2, ![12, 2048]⟩
abbrev S1x12x2048 : Shape := ⟨3, ![1, 12, 2048]⟩
abbrev S256x4096 : Shape := ⟨2, ![256, 4096]⟩
abbrev S1x2120x256 : Shape := ⟨3, ![1, 2120, 256]⟩
abbrev S2120x256 : Shape := ⟨2, ![2120, 256]⟩
abbrev S72x256 : Shape := ⟨2, ![72, 256]⟩
abbrev S1x72x256 : Shape := ⟨3, ![1, 72, 256]⟩
abbrev S1x2064x256 : Shape := ⟨3, ![1, 2064, 256]⟩
abbrev S2064x256 : Shape := ⟨2, ![2064, 256]⟩
abbrev S2064x768 : Shape := ⟨2, ![2064, 768]⟩
abbrev S1x768x256 : Shape := ⟨3, ![1, 768, 256]⟩
abbrev S768x256 : Shape := ⟨2, ![768, 256]⟩
abbrev S2048x1 : Shape := ⟨2, ![2048, 1]⟩
abbrev S2048x256 : Shape := ⟨2, ![2048, 256]⟩
abbrev S2048x16 : Shape := ⟨2, ![2048, 16]⟩
abbrev S1x1024x256 : Shape := ⟨3, ![1, 1024, 256]⟩
abbrev S1024x256 : Shape := ⟨2, ![1024, 256]⟩
abbrev S40x256 : Shape := ⟨2, ![40, 256]⟩
abbrev S1x40x256 : Shape := ⟨3, ![1, 40, 256]⟩
abbrev S1x1040x256 : Shape := ⟨3, ![1, 1040, 256]⟩
abbrev S1040x256 : Shape := ⟨2, ![1040, 256]⟩
abbrev S1040x768 : Shape := ⟨2, ![1040, 768]⟩
abbrev S1024x1 : Shape := ⟨2, ![1024, 1]⟩
abbrev S1024x16 : Shape := ⟨2, ![1024, 16]⟩
abbrev S16x1024 : Shape := ⟨2, ![16, 1024]⟩
abbrev S3x1024 : Shape := ⟨2, ![3, 1024]⟩
abbrev S1x3x1024 : Shape := ⟨3, ![1, 3, 1024]⟩
abbrev S12x1024 : Shape := ⟨2, ![12, 1024]⟩
abbrev S1x12x1024 : Shape := ⟨3, ![1, 12, 1024]⟩
abbrev S1x256x256 : Shape := ⟨3, ![1, 256, 256]⟩
abbrev S24x256 : Shape := ⟨2, ![24, 256]⟩
abbrev S1x24x256 : Shape := ⟨3, ![1, 24, 256]⟩
abbrev S1x272x256 : Shape := ⟨3, ![1, 272, 256]⟩
abbrev S272x256 : Shape := ⟨2, ![272, 256]⟩
abbrev S272x768 : Shape := ⟨2, ![272, 768]⟩
abbrev S1x3x256 : Shape := ⟨3, ![1, 3, 256]⟩
abbrev S1x12x256 : Shape := ⟨3, ![1, 12, 256]⟩

abbrev nBuf : Space → Nat
  | .hbm => 54
  | .vmem => 20
  | .smem => 0
  | _ => 0

abbrev bufTy : (tb : Table) → Fin (tcTables nBuf tb) → BufTy
  | .hbm, ⟨0, _⟩ => ⟨S2x256x128x128, .f32⟩
  | .hbm, ⟨1, _⟩ => ⟨S2x256x64x64, .f32⟩
  | .hbm, ⟨2, _⟩ => ⟨S2x256x32x32, .f32⟩
  | .hbm, ⟨3, _⟩ => ⟨S2x256x16x16, .f32⟩
  | .hbm, ⟨4, _⟩ => ⟨S256x256x3x3, .f32⟩
  | .hbm, ⟨5, _⟩ => ⟨S256, .f32⟩
  | .hbm, ⟨6, _⟩ => ⟨S3x256x1x1, .f32⟩
  | .hbm, ⟨7, _⟩ => ⟨S3, .f32⟩
  | .hbm, ⟨8, _⟩ => ⟨S12x256x1x1, .f32⟩
  | .hbm, ⟨9, _⟩ => ⟨S12, .f32⟩
  | .hbm, ⟨10, _⟩ => ⟨S3x256x3x256, .f32⟩
  | .hbm, ⟨11, _⟩ => ⟨S3x256x768, .f32⟩
  | .hbm, ⟨12, _⟩ => ⟨S3x256x768, .bf16⟩
  | .hbm, ⟨13, _⟩ => ⟨S3x3x256x256, .f32⟩
  | .hbm, ⟨14, _⟩ => ⟨S3x768x256, .f32⟩
  | .hbm, ⟨15, _⟩ => ⟨S3x768x256, .bf16⟩
  | .hbm, ⟨16, _⟩ => ⟨S256x1, .f32⟩
  | .hbm, ⟨17, _⟩ => ⟨S1x256, .f32⟩
  | .hbm, ⟨18, _⟩ => ⟨S3x256, .f32⟩
  | .hbm, ⟨19, _⟩ => ⟨S12x256, .f32⟩
  | .hbm, ⟨20, _⟩ => ⟨S15x256, .f32⟩
  | .hbm, ⟨21, _⟩ => ⟨S_, .i32⟩
  | .hbm, ⟨22, _⟩ => ⟨S_, .f32⟩
  | .hbm, ⟨23, _⟩ => ⟨S16x256, .f32⟩
  | .hbm, ⟨24, _⟩ => ⟨S16x256, .bf16⟩
  | .hbm, ⟨25, _⟩ => ⟨S256x16, .bf16⟩
  | .hbm, ⟨26, _⟩ => ⟨S15, .f32⟩
  | .hbm, ⟨27, _⟩ => ⟨S_, .i32⟩
  | .hbm, ⟨28, _⟩ => ⟨S_, .f32⟩
  | .hbm, ⟨29, _⟩ => ⟨S16, .f32⟩
  | .hbm, ⟨30, _⟩ => ⟨S16x1, .f32⟩
  | .hbm, ⟨31, _⟩ => ⟨S1x16, .f32⟩
  | .hbm, ⟨32, _⟩ => ⟨S2x64x64x256, .f32⟩
  | .hbm, ⟨33, _⟩ => ⟨S2x4096x256, .f32⟩
  | .hbm, ⟨34, _⟩ => ⟨S2x32x32x256, .f32⟩
  | .hbm, ⟨35, _⟩ => ⟨S2x1024x256, .f32⟩
  | .hbm, ⟨36, _⟩ => ⟨S2x16x16x256, .f32⟩
  | .hbm, ⟨37, _⟩ => ⟨S2x256x256, .f32⟩
  | .hbm, ⟨38, _⟩ => ⟨S2x3x16384, .f32⟩
  | .hbm, ⟨39, _⟩ => ⟨S2x12x16384, .f32⟩
  | .hbm, ⟨40, _⟩ => ⟨S2x3x4096, .f32⟩
  | .hbm, ⟨41, _⟩ => ⟨S2x12x4096, .f32⟩
  | .hbm, ⟨42, _⟩ => ⟨S2x3x1024, .f32⟩
  | .hbm, ⟨43, _⟩ => ⟨S2x12x1024, .f32⟩
  | .hbm, ⟨44, _⟩ => ⟨S2x3x256, .f32⟩
  | .hbm, ⟨45, _⟩ => ⟨S2x12x256, .f32⟩
  | .hbm, ⟨46, _⟩ => ⟨S2x3x128x128, .f32⟩
  | .hbm, ⟨47, _⟩ => ⟨S2x12x128x128, .f32⟩
  | .hbm, ⟨48, _⟩ => ⟨S2x3x64x64, .f32⟩
  | .hbm, ⟨49, _⟩ => ⟨S2x12x64x64, .f32⟩
  | .hbm, ⟨50, _⟩ => ⟨S2x3x32x32, .f32⟩
  | .hbm, ⟨51, _⟩ => ⟨S2x12x32x32, .f32⟩
  | .hbm, ⟨52, _⟩ => ⟨S2x3x16x16, .f32⟩
  | .hbm, ⟨53, _⟩ => ⟨S2x12x16x16, .f32⟩
  | .local _ .vmem, ⟨0, _⟩ => ⟨S3x256x768, .bf16⟩
  | .local _ .vmem, ⟨1, _⟩ => ⟨S3x768x256, .bf16⟩
  | .local _ .vmem, ⟨2, _⟩ => ⟨S256x1, .f32⟩
  | .local _ .vmem, ⟨3, _⟩ => ⟨S1x256, .f32⟩
  | .local _ .vmem, ⟨4, _⟩ => ⟨S16x256, .bf16⟩
  | .local _ .vmem, ⟨5, _⟩ => ⟨S256x16, .bf16⟩
  | .local _ .vmem, ⟨6, _⟩ => ⟨S16x1, .f32⟩
  | .local _ .vmem, ⟨7, _⟩ => ⟨S1x16, .f32⟩
  | .local _ .vmem, ⟨8, _⟩ => ⟨S2x3x16384, .f32⟩
  | .local _ .vmem, ⟨9, _⟩ => ⟨S2x12x16384, .f32⟩
  | .local _ .vmem, ⟨10, _⟩ => ⟨S2x3x4096, .f32⟩
  | .local _ .vmem, ⟨11, _⟩ => ⟨S2x12x4096, .f32⟩
  | .local _ .vmem, ⟨12, _⟩ => ⟨S2x3x1024, .f32⟩
  | .local _ .vmem, ⟨13, _⟩ => ⟨S2x12x1024, .f32⟩
  | .local _ .vmem, ⟨14, _⟩ => ⟨S2x3x256, .f32⟩
  | .local _ .vmem, ⟨15, _⟩ => ⟨S2x12x256, .f32⟩
  | .local _ .vmem, ⟨16, _⟩ => ⟨S2x256x32x128, .f32⟩
  | .local _ .vmem, ⟨17, _⟩ => ⟨S2x2192x256, .f32⟩
  | .local _ .vmem, ⟨18, _⟩ => ⟨S2x1104x256, .f32⟩
  | .local _ .vmem, ⟨19, _⟩ => ⟨S2x304x256, .f32⟩
  | _, _ => ⟨S2x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call2_v0_0 : Ref sig .tc := ⟨.hbm, 38, rfl⟩
abbrev main_call2_v0_1 : Ref sig .tc := ⟨.hbm, 39, rfl⟩
abbrev main_call2_v0_2 : Ref sig .tc := ⟨.hbm, 40, rfl⟩
abbrev main_call2_v0_3 : Ref sig .tc := ⟨.hbm, 41, rfl⟩
abbrev main_call2_v0_4 : Ref sig .tc := ⟨.hbm, 42, rfl⟩
abbrev main_call2_v0_5 : Ref sig .tc := ⟨.hbm, 43, rfl⟩
abbrev main_call2_v0_6 : Ref sig .tc := ⟨.hbm, 44, rfl⟩
abbrev main_call2_v0_7 : Ref sig .tc := ⟨.hbm, 45, rfl⟩
abbrev main_v24_0 : Ref sig .tc := ⟨.hbm, 46, rfl⟩
abbrev main_v24_4 : Ref sig .tc := ⟨.hbm, 47, rfl⟩
abbrev main_v24_1 : Ref sig .tc := ⟨.hbm, 48, rfl⟩
abbrev main_v24_5 : Ref sig .tc := ⟨.hbm, 49, rfl⟩
abbrev main_v24_2 : Ref sig .tc := ⟨.hbm, 50, rfl⟩
abbrev main_v24_6 : Ref sig .tc := ⟨.hbm, 51, rfl⟩
abbrev main_v24_3 : Ref sig .tc := ⟨.hbm, 52, rfl⟩
abbrev main_v24_7 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S3x256x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x3x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x12x16384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x3x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x12x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x3x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x12x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x12x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ReferenceIdeal.lean ====
abbrev S2x256x128x128 : Shape := ⟨4, ![2, 256, 128, 128]⟩
abbrev S2x256x64x64 : Shape := ⟨4, ![2, 256, 64, 64]⟩
abbrev S2x256x32x32 : Shape := ⟨4, ![2, 256, 32, 32]⟩
abbrev S2x256x16x16 : Shape := ⟨4, ![2, 256, 16, 16]⟩
abbrev S256x256x3x3 : Shape := ⟨4, ![256, 256, 3, 3]⟩
abbrev S256 : Shape := ⟨1, ![256]⟩
abbrev S3x256x1x1 : Shape := ⟨4, ![3, 256, 1, 1]⟩
abbrev S3 : Shape := ⟨1, ![3]⟩
abbrev S12x256x1x1 : Shape := ⟨4, ![12, 256, 1, 1]⟩
abbrev S12 : Shape := ⟨1, ![12]⟩
abbrev S_ : Shape := ⟨0, ![]⟩
abbrev S2x256x130x130 : Shape := ⟨4, ![2, 256, 130, 130]⟩
abbrev S256x256x1x1 : Shape := ⟨4, ![256, 256, 1, 1]⟩
abbrev S256x256 : Shape := ⟨2, ![256, 256]⟩
abbrev S2x128x128x256 : Shape := ⟨4, ![2, 128, 128, 256]⟩
abbrev S1x256x1x1 : Shape := ⟨4, ![1, 256, 1, 1]⟩
abbrev S3x256 : Shape := ⟨2, ![3, 256]⟩
abbrev S2x128x128x3 : Shape := ⟨4, ![2, 128, 128, 3]⟩
abbrev S2x3x128x128 : Shape := ⟨4, ![2, 3, 128, 128]⟩
abbrev S1x3x1x1 : Shape := ⟨4, ![1, 3, 1, 1]⟩
abbrev S12x256 : Shape := ⟨2, ![12, 256]⟩
abbrev S2x128x128x12 : Shape := ⟨4, ![2, 128, 128, 12]⟩
abbrev S2x12x128x128 : Shape := ⟨4, ![2, 12, 128, 128]⟩
abbrev S1x12x1x1 : Shape := ⟨4, ![1, 12, 1, 1]⟩
abbrev S2x256x66x66 : Shape := ⟨4, ![2, 256, 66, 66]⟩
abbrev S2x64x64x256 : Shape := ⟨4, ![2, 64, 64, 256]⟩
abbrev S2x64x64x3 : Shape := ⟨4, ![2, 64, 64, 3]⟩
abbrev S2x3x64x64 : Shape := ⟨4, ![2, 3, 64, 64]⟩
abbrev S2x64x64x12 : Shape := ⟨4, ![2, 64, 64, 12]⟩
abbrev S2x12x64x64 : Shape := ⟨4, ![2, 12, 64, 64]⟩
abbrev S2x256x34x34 : Shape := ⟨4, ![2, 256, 34, 34]⟩
abbrev S2x32x32x256 : Shape := ⟨4, ![2, 32, 32, 256]⟩
abbrev S2x32x32x3 : Shape := ⟨4, ![2, 32, 32, 3]⟩
abbrev S2x3x32x32 : Shape := ⟨4, ![2, 3, 32, 32]⟩
abbrev S2x32x32x12 : Shape := ⟨4, ![2, 32, 32, 12]⟩
abbrev S2x12x32x32 : Shape := ⟨4, ![2, 12, 32, 32]⟩
abbrev S2x256x18x18 : Shape := ⟨4, ![2, 256, 18, 18]⟩
abbrev S2x16x16x256 : Shape := ⟨4, ![2, 16, 16, 256]⟩
abbrev S2x16x16x3 : Shape := ⟨4, ![2, 16, 16, 3]⟩
abbrev S2x3x16x16 : Shape := ⟨4, ![2, 3, 16, 16]⟩
abbrev S2x16x16x12 : Shape := ⟨4, ![2, 16, 16, 12]⟩
abbrev S2x12x16x16 : Shape := ⟨4, ![2, 12, 16, 16]⟩

abbrev nBuf : Space → Nat
  | .hbm => 306
  | .vmem => 0
  | .smem => 0
  | _ => 0

abbrev hbmTy0_0 (i : Nat) : BufTy := match i % 128 with
  | 0 => ⟨S2x256x128x128, .f32⟩
  | 1 => ⟨S2x256x64x64, .f32⟩
  | 2 => ⟨S2x256x32x32, .f32⟩
  | 3 => ⟨S2x256x16x16, .f32⟩
  | 4 => ⟨S256x256x3x3, .f32⟩
  | 5 => ⟨S256, .f32⟩
  | 6 => ⟨S3x256x1x1, .f32⟩
  | 7 => ⟨S3, .f32⟩
  | 8 => ⟨S12x256x1x1, .f32⟩
  | 9 => ⟨S12, .f32⟩
  | 10 => ⟨S_, .i32⟩
  | 11 => ⟨S_, .f32⟩
  | 12 => ⟨S2x256x130x130, .f32⟩
  | 13 => ⟨S256x256x1x1, .f32⟩
  | 14 => ⟨S256x256, .f32⟩
  | 15 => ⟨S2x256x128x128, .f32⟩
  | 16 => ⟨S2x128x128x256, .f32⟩
  | 17 => ⟨S2x256x128x128, .f32⟩
  | 18 => ⟨S256x256x1x1, .f32⟩
  | 19 => ⟨S256x256, .f32⟩
  | 20 => ⟨S2x256x128x128, .f32⟩
  | 21 => ⟨S2x128x128x256, .f32⟩
  | 22 => ⟨S2x256x128x128, .f32⟩
  | 23 => ⟨S2x256x128x128, .f32⟩
  | 24 => ⟨S256x256x1x1, .f32⟩
  | 25 => ⟨S256x256, .f32⟩
  | 26 => ⟨S2x256x128x128, .f32⟩
  | 27 => ⟨S2x128x128x256, .f32⟩
  | 28 => ⟨S2x256x128x128, .f32⟩
  | 29 => ⟨S2x256x128x128, .f32⟩
  | 30 => ⟨S256x256x1x1, .f32⟩
  | 31 => ⟨S256x256, .f32⟩
  | 32 => ⟨S2x256x128x128, .f32⟩
  | 33 => ⟨S2x128x128x256, .f32⟩
  | 34 => ⟨S2x256x128x128, .f32⟩
  | 35 => ⟨S2x256x128x128, .f32⟩
  | 36 => ⟨S256x256x1x1, .f32⟩
  | 37 => ⟨S256x256, .f32⟩
  | 38 => ⟨S2x256x128x128, .f32⟩
  | 39 => ⟨S2x128x128x256, .f32⟩
  | 40 => ⟨S2x256x128x128, .f32⟩
  | 41 => ⟨S2x256x128x128, .f32⟩
  | 42 => ⟨S256x256x1x1, .f32⟩
  | 43 => ⟨S256x256, .f32⟩
  | 44 => ⟨S2x256x128x128, .f32⟩
  | 45 => ⟨S2x128x128x256, .f32⟩
  | 46 => ⟨S2x256x128x128, .f32⟩
  | 47 => ⟨S2x256x128x128, .f32⟩
  | 48 => ⟨S256x256x1x1, .f32⟩
  | 49 => ⟨S256x256, .f32⟩
  | 50 => ⟨S2x256x128x128, .f32⟩
  | 51 => ⟨S2x128x128x256, .f32⟩
  | 52 => ⟨S2x256x128x128, .f32⟩
  | 53 => ⟨S2x256x128x128, .f32⟩
  | 54 => ⟨S256x256x1x1, .f32⟩
  | 55 => ⟨S256x256, .f32⟩
  | 56 => ⟨S2x256x128x128, .f32⟩
  | 57 => ⟨S2x128x128x256, .f32⟩
  | 58 => ⟨S2x256x128x128, .f32⟩
  | 59 => ⟨S2x256x128x128, .f32⟩
  | 60 => ⟨S256x256x1x1, .f32⟩
  | 61 => ⟨S256x256, .f32⟩
  | 62 => ⟨S2x256x128x128, .f32⟩
  | 63 => ⟨S2x128x128x256, .f32⟩
  | 64 => ⟨S2x256x128x128, .f32⟩
  | 65 => ⟨S2x256x128x128, .f32⟩
  | 66 => ⟨S1x256x1x1, .f32⟩
  | 67 => ⟨S2x256x128x128, .f32⟩
  | 68 => ⟨S2x256x128x128, .f32⟩
  | 69 => ⟨S_, .f32⟩
  | 70 => ⟨S2x256x128x128, .f32⟩
  | 71 => ⟨S2x256x128x128, .f32⟩
  | 72 => ⟨S3x256, .f32⟩
  | 73 => ⟨S2x128x128x3, .f32⟩
  | 74 => ⟨S2x3x128x128, .f32⟩
  | 75 => ⟨S1x3x1x1, .f32⟩
  | 76 => ⟨S2x3x128x128, .f32⟩
  | 77 => ⟨S2x3x128x128, .f32⟩
  | 78 => ⟨S12x256, .f32⟩
  | 79 => ⟨S2x128x128x12, .f32⟩
  | 80 => ⟨S2x12x128x128, .f32⟩
  | 81 => ⟨S1x12x1x1, .f32⟩
  | 82 => ⟨S2x12x128x128, .f32⟩
  | 83 => ⟨S2x12x128x128, .f32⟩
  | 84 => ⟨S_, .i32⟩
  | 85 => ⟨S_, .f32⟩
  | 86 => ⟨S2x256x66x66, .f32⟩
  | 87 => ⟨S256x256x1x1, .f32⟩
  | 88 => ⟨S256x256, .f32⟩
  | 89 => ⟨S2x256x64x64, .f32⟩
  | 90 => ⟨S2x64x64x256, .f32⟩
  | 91 => ⟨S2x256x64x64, .f32⟩
  | 92 => ⟨S256x256x1x1, .f32⟩
  | 93 => ⟨S256x256, .f32⟩
  | 94 => ⟨S2x256x64x64, .f32⟩
  | 95 => ⟨S2x64x64x256, .f32⟩
  | 96 => ⟨S2x256x64x64, .f32⟩
  | 97 => ⟨S2x256x64x64, .f32⟩
  | 98 => ⟨S256x256x1x1, .f32⟩
  | 99 => ⟨S256x256, .f32⟩
  | 100 => ⟨S2x256x64x64, .f32⟩
  | 101 => ⟨S2x64x64x256, .f32⟩
  | 102 => ⟨S2x256x64x64, .f32⟩
  | 103 => ⟨S2x256x64x64, .f32⟩
  | 104 => ⟨S256x256x1x1, .f32⟩
  | 105 => ⟨S256x256, .f32⟩
  | 106 => ⟨S2x256x64x64, .f32⟩
  | 107 => ⟨S2x64x64x256, .f32⟩
  | 108 => ⟨S2x256x64x64, .f32⟩
  | 109 => ⟨S2x256x64x64, .f32⟩
  | 110 => ⟨S256x256x1x1, .f32⟩
  | 111 => ⟨S256x256, .f32⟩
  | 112 => ⟨S2x256x64x64, .f32⟩
  | 113 => ⟨S2x64x64x256, .f32⟩
  | 114 => ⟨S2x256x64x64, .f32⟩
  | 115 => ⟨S2x256x64x64, .f32⟩
  | 116 => ⟨S256x256x1x1, .f32⟩
  | 117 => ⟨S256x256, .f32⟩
  | 118 => ⟨S2x256x64x64, .f32⟩
  | 119 => ⟨S2x64x64x256, .f32⟩
  | 120 => ⟨S2x256x64x64, .f32⟩
  | 121 => ⟨S2x256x64x64, .f32⟩
  | 122 => ⟨S256x256x1x1, .f32⟩
  | 123 => ⟨S256x256, .f32⟩
  | 124 => ⟨S2x256x64x64, .f32⟩
  | 125 => ⟨S2x64x64x256, .f32⟩
  | 126 => ⟨S2x256x64x64, .f32⟩
  | 127 => ⟨S2x256x64x64, .f32⟩
  | _ => ⟨S2x256x128x128, .f32⟩

abbrev hbmTy0_1 (i : Nat) : BufTy := match i % 128 with
  | 0 => ⟨S256x256x1x1, .f32⟩
  | 1 => ⟨S256x256, .f32⟩
  | 2 => ⟨S2x256x64x64, .f32⟩
  | 3 => ⟨S2x64x64x256, .f32⟩
  | 4 => ⟨S2x256x64x64, .f32⟩
  | 5 => ⟨S2x256x64x64, .f32⟩
  | 6 => ⟨S256x256x1x1, .f32⟩
  | 7 => ⟨S256x256, .f32⟩
  | 8 => ⟨S2x256x64x64, .f32⟩
  | 9 => ⟨S2x64x64x256, .f32⟩
  | 10 => ⟨S2x256x64x64, .f32⟩
  | 11 => ⟨S2x256x64x64, .f32⟩
  | 12 => ⟨S1x256x1x1, .f32⟩
  | 13 => ⟨S2x256x64x64, .f32⟩
  | 14 => ⟨S2x256x64x64, .f32⟩
  | 15 => ⟨S_, .f32⟩
  | 16 => ⟨S2x256x64x64, .f32⟩
  | 17 => ⟨S2x256x64x64, .f32⟩
  | 18 => ⟨S3x256, .f32⟩
  | 19 => ⟨S2x64x64x3, .f32⟩
  | 20 => ⟨S2x3x64x64, .f32⟩
  | 21 => ⟨S1x3x1x1, .f32⟩
  | 22 => ⟨S2x3x64x64, .f32⟩
  | 23 => ⟨S2x3x64x64, .f32⟩
  | 24 => ⟨S12x256, .f32⟩
  | 25 => ⟨S2x64x64x12, .f32⟩
  | 26 => ⟨S2x12x64x64, .f32⟩
  | 27 => ⟨S1x12x1x1, .f32⟩
  | 28 => ⟨S2x12x64x64, .f32⟩
  | 29 => ⟨S2x12x64x64, .f32⟩
  | 30 => ⟨S_, .i32⟩
  | 31 => ⟨S_, .f32⟩
  | 32 => ⟨S2x256x34x34, .f32⟩
  | 33 => ⟨S256x256x1x1, .f32⟩
  | 34 => ⟨S256x256, .f32⟩
  | 35 => ⟨S2x256x32x32, .f32⟩
  | 36 => ⟨S2x32x32x256, .f32⟩
  | 37 => ⟨S2x256x32x32, .f32⟩
  | 38 => ⟨S256x256x1x1, .f32⟩
  | 39 => ⟨S256x256, .f32⟩
  | 40 => ⟨S2x256x32x32, .f32⟩
  | 41 => ⟨S2x32x32x256, .f32⟩
  | 42 => ⟨S2x256x32x32, .f32⟩
  | 43 => ⟨S2x256x32x32, .f32⟩
  | 44 => ⟨S256x256x1x1, .f32⟩
  | 45 => ⟨S256x256, .f32⟩
  | 46 => ⟨S2x256x32x32, .f32⟩
  | 47 => ⟨S2x32x32x256, .f32⟩
  | 48 => ⟨S2x256x32x32, .f32⟩
  | 49 => ⟨S2x256x32x32, .f32⟩
  | 50 => ⟨S256x256x1x1, .f32⟩
  | 51 => ⟨S256x256, .f32⟩
  | 52 => ⟨S2x256x32x32, .f32⟩
  | 53 => ⟨S2x32x32x256, .f32⟩
  | 54 => ⟨S2x256x32x32, .f32⟩
  | 55 => ⟨S2x256x32x32, .f32⟩
  | 56 => ⟨S256x256x1x1, .f32⟩
  | 57 => ⟨S256x256, .f32⟩
  | 58 => ⟨S2x256x32x32, .f32⟩
  | 59 => ⟨S2x32x32x256, .f32⟩
  | 60 => ⟨S2x256x32x32, .f32⟩
  | 61 => ⟨S2x256x32x32, .f32⟩
  | 62 => ⟨S256x256x1x1, .f32⟩
  | 63 => ⟨S256x256, .f32⟩
  | 64 => ⟨S2x256x32x32, .f32⟩
  | 65 => ⟨S2x32x32x256, .f32⟩
  | 66 => ⟨S2x256x32x32, .f32⟩
  | 67 => ⟨S2x256x32x32, .f32⟩
  | 68 => ⟨S256x256x1x1, .f32⟩
  | 69 => ⟨S256x256, .f32⟩
  | 70 => ⟨S2x256x32x32, .f32⟩
  | 71 => ⟨S2x32x32x256, .f32⟩
  | 72 => ⟨S2x256x32x32, .f32⟩
  | 73 => ⟨S2x256x32x32, .f32⟩
  | 74 => ⟨S256x256x1x1, .f32⟩
  | 75 => ⟨S256x256, .f32⟩
  | 76 => ⟨S2x256x32x32, .f32⟩
  | 77 => ⟨S2x32x32x256, .f32⟩
  | 78 => ⟨S2x256x32x32, .f32⟩
  | 79 => ⟨S2x256x32x32, .f32⟩
  | 80 => ⟨S256x256x1x1, .f32⟩
  | 81 => ⟨S256x256, .f32⟩
  | 82 => ⟨S2x256x32x32, .f32⟩
  | 83 => ⟨S2x32x32x256, .f32⟩
  | 84 => ⟨S2x256x32x32, .f32⟩
  | 85 => ⟨S2x256x32x32, .f32⟩
  | 86 => ⟨S1x256x1x1, .f32⟩
  | 87 => ⟨S2x256x32x32, .f32⟩
  | 88 => ⟨S2x256x32x32, .f32⟩
  | 89 => ⟨S_, .f32⟩
  | 90 => ⟨S2x256x32x32, .f32⟩
  | 91 => ⟨S2x256x32x32, .f32⟩
  | 92 => ⟨S3x256, .f32⟩
  | 93 => ⟨S2x32x32x3, .f32⟩
  | 94 => ⟨S2x3x32x32, .f32⟩
  | 95 => ⟨S1x3x1x1, .f32⟩
  | 96 => ⟨S2x3x32x32, .f32⟩
  | 97 => ⟨S2x3x32x32, .f32⟩
  | 98 => ⟨S12x256, .f32⟩
  | 99 => ⟨S2x32x32x12, .f32⟩
  | 100 => ⟨S2x12x32x32, .f32⟩
  | 101 => ⟨S1x12x1x1, .f32⟩
  | 102 => ⟨S2x12x32x32, .f32⟩
  | 103 => ⟨S2x12x32x32, .f32⟩
  | 104 => ⟨S_, .i32⟩
  | 105 => ⟨S_, .f32⟩
  | 106 => ⟨S2x256x18x18, .f32⟩
  | 107 => ⟨S256x256x1x1, .f32⟩
  | 108 => ⟨S256x256, .f32⟩
  | 109 => ⟨S2x256x16x16, .f32⟩
  | 110 => ⟨S2x16x16x256, .f32⟩
  | 111 => ⟨S2x256x16x16, .f32⟩
  | 112 => ⟨S256x256x1x1, .f32⟩
  | 113 => ⟨S256x256, .f32⟩
  | 114 => ⟨S2x256x16x16, .f32⟩
  | 115 => ⟨S2x16x16x256, .f32⟩
  | 116 => ⟨S2x256x16x16, .f32⟩
  | 117 => ⟨S2x256x16x16, .f32⟩
  | 118 => ⟨S256x256x1x1, .f32⟩
  | 119 => ⟨S256x256, .f32⟩
  | 120 => ⟨S2x256x16x16, .f32⟩
  | 121 => ⟨S2x16x16x256, .f32⟩
  | 122 => ⟨S2x256x16x16, .f32⟩
  | 123 => ⟨S2x256x16x16, .f32⟩
  | 124 => ⟨S256x256x1x1, .f32⟩
  | 125 => ⟨S256x256, .f32⟩
  | 126 => ⟨S2x256x16x16, .f32⟩
  | 127 => ⟨S2x16x16x256, .f32⟩
  | _ => ⟨S2x256x128x128, .f32⟩

abbrev hbmTy0_2 (i : Nat) : BufTy := match i % 128 with
  | 0 => ⟨S2x256x16x16, .f32⟩
  | 1 => ⟨S2x256x16x16, .f32⟩
  | 2 => ⟨S256x256x1x1, .f32⟩
  | 3 => ⟨S256x256, .f32⟩
  | 4 => ⟨S2x256x16x16, .f32⟩
  | 5 => ⟨S2x16x16x256, .f32⟩
  | 6 => ⟨S2x256x16x16, .f32⟩
  | 7 => ⟨S2x256x16x16, .f32⟩
  | 8 => ⟨S256x256x1x1, .f32⟩
  | 9 => ⟨S256x256, .f32⟩
  | 10 => ⟨S2x256x16x16, .f32⟩
  | 11 => ⟨S2x16x16x256, .f32⟩
  | 12 => ⟨S2x256x16x16, .f32⟩
  | 13 => ⟨S2x256x16x16, .f32⟩
  | 14 => ⟨S256x256x1x1, .f32⟩
  | 15 => ⟨S256x256, .f32⟩
  | 16 => ⟨S2x256x16x16, .f32⟩
  | 17 => ⟨S2x16x16x256, .f32⟩
  | 18 => ⟨S2x256x16x16, .f32⟩
  | 19 => ⟨S2x256x16x16, .f32⟩
  | 20 => ⟨S256x256x1x1, .f32⟩
  | 21 => ⟨S256x256, .f32⟩
  | 22 => ⟨S2x256x16x16, .f32⟩
  | 23 => ⟨S2x16x16x256, .f32⟩
  | 24 => ⟨S2x256x16x16, .f32⟩
  | 25 => ⟨S2x256x16x16, .f32⟩
  | 26 => ⟨S256x256x1x1, .f32⟩
  | 27 => ⟨S256x256, .f32⟩
  | 28 => ⟨S2x256x16x16, .f32⟩
  | 29 => ⟨S2x16x16x256, .f32⟩
  | 30 => ⟨S2x256x16x16, .f32⟩
  | 31 => ⟨S2x256x16x16, .f32⟩
  | 32 => ⟨S1x256x1x1, .f32⟩
  | 33 => ⟨S2x256x16x16, .f32⟩
  | 34 => ⟨S2x256x16x16, .f32⟩
  | 35 => ⟨S_, .f32⟩
  | 36 => ⟨S2x256x16x16, .f32⟩
  | 37 => ⟨S2x256x16x16, .f32⟩
  | 38 => ⟨S3x256, .f32⟩
  | 39 => ⟨S2x16x16x3, .f32⟩
  | 40 => ⟨S2x3x16x16, .f32⟩
  | 41 => ⟨S1x3x1x1, .f32⟩
  | 42 => ⟨S2x3x16x16, .f32⟩
  | 43 => ⟨S2x3x16x16, .f32⟩
  | 44 => ⟨S12x256, .f32⟩
  | 45 => ⟨S2x16x16x12, .f32⟩
  | 46 => ⟨S2x12x16x16, .f32⟩
  | 47 => ⟨S1x12x1x1, .f32⟩
  | 48 => ⟨S2x12x16x16, .f32⟩
  | 49 => ⟨S2x12x16x16, .f32⟩
  | _ => ⟨S2x256x128x128, .f32⟩

abbrev hbmTy (i : Nat) : BufTy := match i / 128 with
  | 0 => hbmTy0_0 i
  | 1 => hbmTy0_1 i
  | 2 => hbmTy0_2 i
  | _ => ⟨S2x256x128x128, .f32⟩

abbrev bufTy : (tb : Table) → Fin (tcTables nBuf tb) → BufTy
  | .hbm, ⟨i, _⟩ => hbmTy i
  | _, _ => ⟨S2x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_c_0 : Ref sig .tc := ⟨.hbm, 84, rfl⟩
abbrev main_call1_v0 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_v119 : Ref sig .tc := ⟨.hbm, 134, rfl⟩
abbrev main_v120 : Ref sig .tc := ⟨.hbm, 135, rfl⟩
abbrev main_v121 : Ref sig .tc := ⟨.hbm, 136, rfl⟩
abbrev main_v122 : Ref sig .tc := ⟨.hbm, 137, rfl⟩
abbrev main_v123 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_v127 : Ref sig .tc := ⟨.hbm, 142, rfl⟩
abbrev main_cst_1 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_c_2 : Ref sig .tc := ⟨.hbm, 158, rfl⟩
abbrev main_call2_v0 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_cst_3 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_v209 : Ref sig .tc := ⟨.hbm, 228, rfl⟩
abbrev main_v210 : Ref sig .tc := ⟨.hbm, 229, rfl⟩
abbrev main_v211 : Ref sig .tc := ⟨.hbm, 230, rfl⟩
abbrev main_v212 : Ref sig .tc := ⟨.hbm, 231, rfl⟩
abbrev main_c_4 : Ref sig .tc := ⟨.hbm, 232, rfl⟩
abbrev main_call3_v0 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_v263 : Ref sig .tc := ⟨.hbm, 284, rfl⟩
abbrev main_v264 : Ref sig .tc := ⟨.hbm, 285, rfl⟩
abbrev main_v265 : Ref sig .tc := ⟨.hbm, 286, rfl⟩
abbrev main_v266 : Ref sig .tc := ⟨.hbm, 287, rfl⟩
abbrev main_v267 : Ref sig .tc := ⟨.hbm, 288, rfl⟩
abbrev main_v268 : Ref sig .tc := ⟨.hbm, 289, rfl⟩
abbrev main_v269 : Ref sig .tc := ⟨.hbm, 290, rfl⟩
abbrev main_cst_5 : Ref sig .tc := ⟨.hbm, 291, rfl⟩
abbrev main_v270 : Ref sig .tc := ⟨.hbm, 292, rfl⟩
abbrev main_v271 : Ref sig .tc := ⟨.hbm, 293, rfl⟩
abbrev main_v272 : Ref sig .tc := ⟨.hbm, 294, rfl⟩
abbrev main_v273 : Ref sig .tc := ⟨.hbm, 295, rfl⟩
abbrev main_v274 : Ref sig .tc := ⟨.hbm, 296, rfl⟩
abbrev main_v275 : Ref sig .tc := ⟨.hbm, 297, rfl⟩
abbrev main_v276 : Ref sig .tc := ⟨.hbm, 298, rfl⟩
abbrev main_v277 : Ref sig .tc := ⟨.hbm, 299, rfl⟩
abbrev main_v278 : Ref sig .tc := ⟨.hbm, 300, rfl⟩
abbrev main_v279 : Ref sig .tc := ⟨.hbm, 301, rfl⟩
abbrev main_v280 : Ref sig .tc := ⟨.hbm, 302, rfl⟩
abbrev main_v281 : Ref sig .tc := ⟨.hbm, 303, rfl⟩
abbrev main_v282 : Ref sig .tc := ⟨.hbm, 304, rfl⟩
abbrev main_v283 : Ref sig .tc := ⟨.hbm, 305, rfl⟩

abbrev nD : Nat := 1
abbrev τ : Topo := Topo.v7x

variable {F : FTy → Type} [FloatOps F]
-- ==== Proof.BitsRun.lean ====
module

public import proofs.«01_k».proof.Proof.BitsKit

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 3404000 in set_option sl_exec.dmaWindow true in set_option sl_exec.dmaWindowSet true in
/-- The body's triple: on whole staging memrefs — the inputs' at their contents,
    the FORGOTTEN outputs' (8, 9, 10, 11, 12, 13, 14, 15) at anything, handed back at some contents nothing names —
    the body runs to the continuation holding the inputs' as they were, the scratch at some contents: the printed functions are their skeletons (`Gen.*_eq_skeleton`),
    which `sl_exec` runs (Lib/Exec.lean). -/
theorem bodyRun (c : Dev nD) (arg4 : Memref sig .tc .vmem S3x256x768 .bf16) (harg4 : arg4.IsWhole) (arg5 : Memref sig .tc .vmem S3x768x256 .bf16) (harg5 : arg5.IsWhole) (arg6 : Memref sig .tc .vmem S256x1 .f32) (harg6 : arg6.IsWhole) (arg7 : Memref sig .tc .vmem S1x256 .f32) (harg7 : arg7.IsWhole) (arg8 : Memref sig .tc .vmem S16x256 .bf16) (harg8 : arg8.IsWhole) (arg9 : Memref sig .tc .vmem S256x16 .bf16) (harg9 : arg9.IsWhole) (arg10 : Memref sig .tc .vmem S16x1 .f32) (harg10 : arg10.IsWhole) (arg11 : Memref sig .tc .vmem S1x16 .f32) (harg11 : arg11.IsWhole) (arg12 : Memref sig .tc .vmem S2x3x16384 .f32) (harg12 : arg12.IsWhole) (arg13 : Memref sig .tc .vmem S2x12x16384 .f32) (harg13 : arg13.IsWhole) (arg14 : Memref sig .tc .vmem S2x3x4096 .f32) (harg14 : arg14.IsWhole) (arg15 : Memref sig .tc .vmem S2x12x4096 .f32) (harg15 : arg15.IsWhole) (arg16 : Memref sig .tc .vmem S2x3x1024 .f32) (harg16 : arg16.IsWhole) (arg17 : Memref sig .tc .vmem S2x12x1024 .f32) (harg17 : arg17.IsWhole) (arg18 : Memref sig .tc .vmem S2x3x256 .f32) (harg18 : arg18.IsWhole) (arg19 : Memref sig .tc .vmem S2x12x256 .f32) (harg19 : arg19.IsWhole) (arg20 : Memref sig .tc .vmem S2x256x32x128 .f32) (harg20 : arg20.IsWhole) (arg21 : Memref sig .tc .vmem S2x2192x256 .f32) (harg21 : arg21.IsWhole) (arg22 : Memref sig .tc .vmem S2x1104x256 .f32) (harg22 : arg22.IsWhole) (arg23 : Memref sig .tc .vmem S2x304x256 .f32) (harg23 : arg23.IsWhole)
    (x0 : Vec F S3x256x768 .bf16) (x1 : Vec F S3x768x256 .bf16) (x2 : Vec F S256x1 .f32) (x3 : Vec F S1x256 .f32) (x4 : Vec F S16x256 .bf16) (x5 : Vec F S256x16 .bf16) (x6 : Vec F S16x1 .f32) (x7 : Vec F S1x16 .f32) (fh0 : HbBuf0 (F := F) c hbM0_0) (fh1 : HbBuf0 (F := F) c hbM0_1) (fh2 : HbBuf0 (F := F) c hbM0_2) (fh3 : HbBuf0 (F := F) c hbM0_3) :
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__rpn_body (Memref.whole main_arg0) (Memref.isWhole_whole _) (Memref.whole main_v19) (Memref.isWhole_whole _) (Memref.whole main_v21) (Memref.isWhole_whole _) (Memref.whole main_v23) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch4) K := by
    intro W K
    simp only [cc0__rpn_body_eq_skeleton]; unfold cc0__rpn_body_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, Hq0, Hq1, Hh0, Hh1, Hh2, Hh3, HW, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    -- each operand's share in halves: two copies whose source rows overlap are in flight at once
    ihave Hx0 := (pointsTo_share (PosShare.mem_left_op_right fullShare)).1 $$ Hh0
    icases Hx0 with ⟨Hh0, Hg0⟩
    ihave Hx1 := (pointsTo_share (PosShare.mem_left_op_right fullShare)).1 $$ Hh1
    icases Hx1 with ⟨Hh1, Hg1⟩
    ihave Hx2 := (pointsTo_share (PosShare.mem_left_op_right fullShare)).1 $$ Hh2
    icases Hx2 with ⟨Hh2, Hg2⟩
    ihave Hx3 := (pointsTo_share (PosShare.mem_left_op_right fullShare)).1 $$ Hh3
    icases Hx3 with ⟨Hh3, Hg3⟩
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0 Hg0]
    · iapply (pointsTo_share (PosShare.mem_left_op_right fullShare)).2; isplitl [Hh0]; · iexact Hh0
      iexact Hg0
    isplitl [Hh1 Hg1]
    · iapply (pointsTo_share (PosShare.mem_left_op_right fullShare)).2; isplitl [Hh1]; · iexact Hh1
      iexact Hg1
    isplitl [Hh2 Hg2]
    · iapply (pointsTo_share (PosShare.mem_left_op_right fullShare)).2; isplitl [Hh2]; · iexact Hh2
      iexact Hg2
    isplitl [Hh3 Hg3]
    · iapply (pointsTo_share (PosShare.mem_left_op_right fullShare)).2; isplitl [Hh3]; · iexact Hh3
      iexact Hg3
    iexists _; iexact HW

end Cert.Kernel.Whole

end
-- ==== Proof.BitsFrame.lean ====
module

public import proofs.«01_k».proof.Proof.BitsRun
public import Idealize.ShloMosaic.Lib.Claim

@[expose] public section

-- membership in a rectangle of production extents (`View.cover_of_tiled`): the elaborator's structural look
-- recurses once per coordinate of the long axes
set_option maxRecDepth 16384

noncomputable section

namespace Cert.Kernel.Whole

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (8, 9, 10, 11, 12, 13, 14, 15): nothing reads what the kernel leaves in them, so nothing
    of it is named (Lib/Pipeline/Dat.lean `Dat.toRForget`). -/
def forgets0 : Fin 16 → Bool := fun w => w.val == 8 || w.val == 9 || w.val == 10 || w.val == 11 || w.val == 12 || w.val == 13 || w.val == 14 || w.val == 15

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 2000000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    after0_0, after0_1, after0_2, after0_3, after0_4, after0_5, after0_6, after0_7]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (V m c main_arg0) (V m c main_v19) (V m c main_v21) (V m c main_v23)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, H8, H9, H10, H11, H12, H13, H14, H15, HS0, HS1, HS2, HS3, Hq0, Hq1, Hh0, Hh1, Hh2, Hh3, ⟨%W', HW'⟩⟩
  isplitl [HS0 HS1 HS2 HS3 Hg Hq0 Hq1 Hh0 Hh1 Hh2 Hh3]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 8, 9, 10, 11, 12, 13, 14, 15) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Whole

end
-- ==== Proof.Kit.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`, `hostOps0_1`, `hostOps0_2`, `hostOps0_3`, `hostOps0_4`). -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4] [hostOps1] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 256000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- No host operation after the region writes `main_arg5`: it ends as launched. -/
theorem W_main_arg5 (dats : (p : Fin _) → (c : Dev nD) → Dat τ (Elt F) Unit ℕ (Pipeline.UD sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (dats : (p : Fin _) → (c : Dev nD) → Dat τ (Elt F) Unit ℕ (Pipeline.UD sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (dats : (p : Fin _) → (c : Dev nD) → Dat τ (Elt F) Unit ℕ (Pipeline.UD sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-- No host operation after the region writes `main_arg8`: it ends as launched. -/
theorem W_main_arg8 (dats : (p : Fin _) → (c : Dev nD) → Dat τ (Elt F) Unit ℕ (Pipeline.UD sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
/-- No host operation after the region writes `main_arg9`: it ends as launched. -/
theorem W_main_arg9 (dats : (p : Fin _) → (c : Dev nD) → Dat τ (Elt F) Unit ℕ (Pipeline.UD sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (Pipeline.UD sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `W_…` / `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c)),
      (((h c).2 main_arg9 (Pipeline.mem_restRefs_of main_arg9 (by decide) (by decide))).trans (W_main_arg9 m dats c))⟩) h

/-! ## The kernel body on any staging memrefs: a subtype the run finds -/

/-- One staging buffer of output window 8, through which its contents are stated (`View.read_writes_of_cover`: the
    choice does not matter). -/
abbrev VO0_8 : View sig .tc .vmem S2x3x16384 .f32 := (Memref.whole cc0_stg8_0 : Memref sig .tc .vmem S2x3x16384 .f32).view
/-- One staging buffer of output window 9, through which its contents are stated (`View.read_writes_of_cover`: the
    choice does not matter). -/
abbrev VO0_9 : View sig .tc .vmem S2x12x16384 .f32 := (Memref.whole cc0_stg9_0 : Memref sig .tc .vmem S2x12x16384 .f32).view
/-- One staging buffer of output window 10, through which its contents are stated (`View.read_writes_of_cover`: the
    choice does not matter). -/
abbrev VO0_10 : View sig .tc .vmem S2x3x4096 .f32 := (Memref.whole cc0_stg10_0 : Memref sig .tc .vmem S2x3x4096 .f32).view
/-- One staging buffer of output window 11, through which its contents are stated (`View.read_writes_of_cover`: the
    choice does not matter). -/
abbrev VO0_11 : View sig .tc .vmem S2x12x4096 .f32 := (Memref.whole cc0_stg11_0 : Memref sig .tc .vmem S2x12x4096 .f32).view
/-- One staging buffer of output window 12, through which its contents are stated (`View.read_writes_of_cover`: the
    choice does not matter). -/
abbrev VO0_12 : View sig .tc .vmem S2x3x1024 .f32 := (Memref.whole cc0_stg12_0 : Memref sig .tc .vmem S2x3x1024 .f32).view
/-- One staging buffer of output window 13, through which its contents are stated (`View.read_writes_of_cover`: the
    choice does not matter). -/
abbrev VO0_13 : View sig .tc .vmem S2x12x1024 .f32 := (Memref.whole cc0_stg13_0 : Memref sig .tc .vmem S2x12x1024 .f32).view
/-- One staging buffer of output window 14, through which its contents are stated (`View.read_writes_of_cover`: the
    choice does not matter). -/
abbrev VO0_14 : View sig .tc .vmem S2x3x256 .f32 := (Memref.whole cc0_stg14_0 : Memref sig .tc .vmem S2x3x256 .f32).view
/-- One staging buffer of output window 15, through which its contents are stated (`View.read_writes_of_cover`: the
    choice does not matter). -/
abbrev VO0_15 : View sig .tc .vmem S2x12x256 .f32 := (Memref.whole cc0_stg15_0 : Memref sig .tc .vmem S2x12x256 .f32).view
/-- Each window's current staging memref at point `t`, spelled as the pipeline passes it (`bodyAt0`), and its wholeness. -/
abbrev ms0_0 (t : Fin cfg0.N) : Memref sig .tc .vmem S3x256x768 .bf16 := win0_0.stage (cfg0.slots t 0)
abbrev hs0_0 (t : Fin cfg0.N) : (ms0_0 t).IsWhole := hstage0_0 0
abbrev ms0_1 (t : Fin cfg0.N) : Memref sig .tc .vmem S3x768x256 .bf16 := win0_1.stage (cfg0.slots t 1)
abbrev hs0_1 (t : Fin cfg0.N) : (ms0_1 t).IsWhole := hstage0_1 0
abbrev ms0_2 (t : Fin cfg0.N) : Memref sig .tc .vmem S256x1 .f32 := win0_2.stage (cfg0.slots t 2)
abbrev hs0_2 (t : Fin cfg0.N) : (ms0_2 t).IsWhole := hstage0_2 0
abbrev ms0_3 (t : Fin cfg0.N) : Memref sig .tc .vmem S1x256 .f32 := win0_3.stage (cfg0.slots t 3)
abbrev hs0_3 (t : Fin cfg0.N) : (ms0_3 t).IsWhole := hstage0_3 0
abbrev ms0_4 (t : Fin cfg0.N) : Memref sig .tc .vmem S16x256 .bf16 := win0_4.stage (cfg0.slots t 4)
abbrev hs0_4 (t : Fin cfg0.N) : (ms0_4 t).IsWhole := hstage0_4 0
abbrev ms0_5 (t : Fin cfg0.N) : Memref sig .tc .vmem S256x16 .bf16 := win0_5.stage (cfg0.slots t 5)
abbrev hs0_5 (t : Fin cfg0.N) : (ms0_5 t).IsWhole := hstage0_5 0
abbrev ms0_6 (t : Fin cfg0.N) : Memref sig .tc .vmem S16x1 .f32 := win0_6.stage (cfg0.slots t 6)
abbrev hs0_6 (t : Fin cfg0.N) : (ms0_6 t).IsWhole := hstage0_6 0
abbrev ms0_7 (t : Fin cfg0.N) : Memref sig .tc .vmem S1x16 .f32 := win0_7.stage (cfg0.slots t 7)
abbrev hs0_7 (t : Fin cfg0.N) : (ms0_7 t).IsWhole := hstage0_7 0
abbrev ms0_8 (t : Fin cfg0.N) : Memref sig .tc .vmem S2x3x16384 .f32 := win0_8.stage (cfg0.slots t 8)
abbrev hs0_8 (t : Fin cfg0.N) : (ms0_8 t).IsWhole := hstage0_8 0
abbrev ms0_9 (t : Fin cfg0.N) : Memref sig .tc .vmem S2x12x16384 .f32 := win0_9.stage (cfg0.slots t 9)
abbrev hs0_9 (t : Fin cfg0.N) : (ms0_9 t).IsWhole := hstage0_9 0
abbrev ms0_10 (t : Fin cfg0.N) : Memref sig .tc .vmem S2x3x4096 .f32 := win0_10.stage (cfg0.slots t 10)
abbrev hs0_10 (t : Fin cfg0.N) : (ms0_10 t).IsWhole := hstage0_10 0
abbrev ms0_11 (t : Fin cfg0.N) : Memref sig .tc .vmem S2x12x4096 .f32 := win0_11.stage (cfg0.slots t 11)
abbrev hs0_11 (t : Fin cfg0.N) : (ms0_11 t).IsWhole := hstage0_11 0
abbrev ms0_12 (t : Fin cfg0.N) : Memref sig .tc .vmem S2x3x1024 .f32 := win0_12.stage (cfg0.slots t 12)
abbrev hs0_12 (t : Fin cfg0.N) : (ms0_12 t).IsWhole := hstage0_12 0
abbrev ms0_13 (t : Fin cfg0.N) : Memref sig .tc .vmem S2x12x1024 .f32 := win0_13.stage (cfg0.slots t 13)
abbrev hs0_13 (t : Fin cfg0.N) : (ms0_13 t).IsWhole := hstage0_13 0
abbrev ms0_14 (t : Fin cfg0.N) : Memref sig .tc .vmem S2x3x256 .f32 := win0_14.stage (cfg0.slots t 14)
abbrev hs0_14 (t : Fin cfg0.N) : (ms0_14 t).IsWhole := hstage0_14 0
abbrev ms0_15 (t : Fin cfg0.N) : Memref sig .tc .vmem S2x12x256 .f32 := win0_15.stage (cfg0.slots t 15)
abbrev hs0_15 (t : Fin cfg0.N) : (ms0_15 t).IsWhole := hstage0_15 0
/-- The scratch operands: whole scoped buffers of the kernel's own, passed beside the windows. -/
abbrev scM0_0 : Memref sig .tc .vmem S2x256x32x128 .f32 := Memref.whole cc0_scratch0
abbrev scM0_1 : Memref sig .tc .vmem S2x2192x256 .f32 := Memref.whole cc0_scratch1
abbrev scM0_2 : Memref sig .tc .vmem S2x1104x256 .f32 := Memref.whole cc0_scratch2
abbrev scM0_3 : Memref sig .tc .vmem S2x304x256 .f32 := Memref.whole cc0_scratch3
/-- The operands left in HBM that the body copies into scratch itself, whole. -/
abbrev hbM0_0 : Memref sig .tc .hbm S2x256x128x128 .f32 := Memref.whole main_arg0
abbrev hbM0_1 : Memref sig .tc .hbm S2x4096x256 .f32 := Memref.whole main_v19
abbrev hbM0_2 : Memref sig .tc .hbm S2x1024x256 .f32 := Memref.whole main_v21
abbrev hbM0_3 : Memref sig .tc .hbm S2x256x256 .f32 := Memref.whole main_v23
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 16, SemLoc.dma 17] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 16) 0 ∗ semVal ((c : Thread nD τ), SemLoc.dma 17) 0) := by
  rw [Pipeline.ownSems0_eq_of_list c osem0 [0, 1] (by decide) (by decide)]; rfl
/-- The HBM operands the body moves, as references: unscoped, no window's array (`Pipeline.restRefs`). -/
def H0 : Finset (Ref sig .tc) := {main_arg0, main_v19, main_v21, main_v23}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl | rfl | rfl | rfl | rfl | rfl
    all_goals intro b hb; simp only [H0, Finset.mem_insert, Finset.mem_singleton] at hb
    all_goals rcases hb with rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg0) ∗ hbPt0 c hbM0_1 (V m c main_v19) ∗ hbPt0 c hbM0_2 (V m c main_v21) ∗ hbPt0 c hbM0_3 (V m c main_v23)) := by
  rw [BI.bigSep_eq_bigSepL_of_eq [main_arg0, main_v19, main_v21, main_v23] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r) ∗ iprop(semVal ((c : Thread nD τ), SemLoc.dma 16) 0 ∗ semVal ((c : Thread nD τ), SemLoc.dma 17) 0) ∗ iprop(hbPt0 c hbM0_0 (V m c main_arg0) ∗ hbPt0 c hbM0_1 (V m c main_v19) ∗ hbPt0 c hbM0_2 (V m c main_v21) ∗ hbPt0 c hbM0_3 (V m c main_v23))) := by
  rw [Pipeline.ΦD_eq, scopedRest0_eq, ownSems00_eq, hbmPts0_eq]; simp only [scM0_0, scM0_1, scM0_2, scM0_3, owns_whole]; try rfl

end Cert.KernelIdeal.Whole

end
-- ==== Proof.Run.lean ====
module

public import proofs.«01_k».proof.Proof.Kit

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 6000000 in set_option sl_exec.dmaWindow true in set_option sl_exec.dmaWindowSet true in
/-- What the body's stores leave in each output's staging memref, as pieces (last first), with the body's triple: on
    whole staging memrefs — the inputs' at their contents `x`, the outputs' at anything, the scratch buffers at the
    contents `fs`, the arrays it copies from at their launch contents `fh` — the body runs to the continuation holding
    the inputs' as they were, each output's memref with its pieces written over some contents, the scratch at some
    contents and the arrays as they were. The pieces are what the symbolic run finds. -/
noncomputable def bodyRun (c : Dev nD) (arg4 : Memref sig .tc .vmem S3x256x768 .bf16) (harg4 : arg4.IsWhole) (arg5 : Memref sig .tc .vmem S3x768x256 .bf16) (harg5 : arg5.IsWhole) (arg6 : Memref sig .tc .vmem S256x1 .f32) (harg6 : arg6.IsWhole) (arg7 : Memref sig .tc .vmem S1x256 .f32) (harg7 : arg7.IsWhole) (arg8 : Memref sig .tc .vmem S16x256 .bf16) (harg8 : arg8.IsWhole) (arg9 : Memref sig .tc .vmem S256x16 .bf16) (harg9 : arg9.IsWhole) (arg10 : Memref sig .tc .vmem S16x1 .f32) (harg10 : arg10.IsWhole) (arg11 : Memref sig .tc .vmem S1x16 .f32) (harg11 : arg11.IsWhole) (arg12 : Memref sig .tc .vmem S2x3x16384 .f32) (harg12 : arg12.IsWhole) (arg13 : Memref sig .tc .vmem S2x12x16384 .f32) (harg13 : arg13.IsWhole) (arg14 : Memref sig .tc .vmem S2x3x4096 .f32) (harg14 : arg14.IsWhole) (arg15 : Memref sig .tc .vmem S2x12x4096 .f32) (harg15 : arg15.IsWhole) (arg16 : Memref sig .tc .vmem S2x3x1024 .f32) (harg16 : arg16.IsWhole) (arg17 : Memref sig .tc .vmem S2x12x1024 .f32) (harg17 : arg17.IsWhole) (arg18 : Memref sig .tc .vmem S2x3x256 .f32) (harg18 : arg18.IsWhole) (arg19 : Memref sig .tc .vmem S2x12x256 .f32) (harg19 : arg19.IsWhole) (arg20 : Memref sig .tc .vmem S2x256x32x128 .f32) (harg20 : arg20.IsWhole) (arg21 : Memref sig .tc .vmem S2x2192x256 .f32) (harg21 : arg21.IsWhole) (arg22 : Memref sig .tc .vmem S2x1104x256 .f32) (harg22 : arg22.IsWhole) (arg23 : Memref sig .tc .vmem S2x304x256 .f32) (harg23 : arg23.IsWhole)
    (x0 : Vec F S3x256x768 .bf16) (x1 : Vec F S3x768x256 .bf16) (x2 : Vec F S256x1 .f32) (x3 : Vec F S1x256 .f32) (x4 : Vec F S16x256 .bf16) (x5 : Vec F S256x16 .bf16) (x6 : Vec F S16x1 .f32) (x7 : Vec F S1x16 .f32) (fh0 : HbBuf0 (F := F) c hbM0_0) (fh1 : HbBuf0 (F := F) c hbM0_1) (fh2 : HbBuf0 (F := F) c hbM0_2) (fh3 : HbBuf0 (F := F) c hbM0_3) (fs0 : Buf (Elt F) (arg20.view.loc (c : Thread nD τ))) (fs1 : Buf (Elt F) (arg21.view.loc (c : Thread nD τ))) (fs2 : Buf (Elt F) (arg22.view.loc (c : Thread nD τ))) (fs3 : Buf (Elt F) (arg23.view.loc (c : Thread nD τ))) :
    Σ' (L8 : List (View.Piece (Elt F) S2x3x16384 .f32)), Σ' (L9 : List (View.Piece (Elt F) S2x12x16384 .f32)), Σ' (L10 : List (View.Piece (Elt F) S2x3x4096 .f32)), Σ' (L11 : List (View.Piece (Elt F) S2x12x4096 .f32)), Σ' (L12 : List (View.Piece (Elt F) S2x3x1024 .f32)), Σ' (L13 : List (View.Piece (Elt F) S2x12x1024 .f32)), Σ' (L14 : List (View.Piece (Elt F) S2x3x256 .f32)), { L15 : List (View.Piece (Elt F) S2x12x256 .f32) //
      ∀ (W : Waits sig Unit) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (arg20.view.loc (c : Thread nD τ) ↦[arg20.view.set]{fullShare} fs0) ∗ (arg21.view.loc (c : Thread nD τ) ↦[arg21.view.set]{fullShare} fs1) ∗ (arg22.view.loc (c : Thread nD τ) ↦[arg22.view.set]{fullShare} fs2) ∗ (arg23.view.loc (c : Thread nD τ) ↦[arg23.view.set]{fullShare} fs3) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ (∃ f, arg12.view.loc (c : Thread nD τ) ↦[arg12.view.set]{fullShare} arg12.view.writes (Elt F) f L8) ∗ (∃ f, arg13.view.loc (c : Thread nD τ) ↦[arg13.view.set]{fullShare} arg13.view.writes (Elt F) f L9) ∗ (∃ f, arg14.view.loc (c : Thread nD τ) ↦[arg14.view.set]{fullShare} arg14.view.writes (Elt F) f L10) ∗ (∃ f, arg15.view.loc (c : Thread nD τ) ↦[arg15.view.set]{fullShare} arg15.view.writes (Elt F) f L11) ∗ (∃ f, arg16.view.loc (c : Thread nD τ) ↦[arg16.view.set]{fullShare} arg16.view.writes (Elt F) f L12) ∗ (∃ f, arg17.view.loc (c : Thread nD τ) ↦[arg17.view.set]{fullShare} arg17.view.writes (Elt F) f L13) ∗ (∃ f, arg18.view.loc (c : Thread nD τ) ↦[arg18.view.set]{fullShare} arg18.view.writes (Elt F) f L14) ∗ (∃ f, arg19.view.loc (c : Thread nD τ) ↦[arg19.view.set]{fullShare} arg19.view.writes (Elt F) f L15) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ semVal ((c : Thread nD τ), SemLoc.dma 16) 0 ∗ semVal ((c : Thread nD τ), SemLoc.dma 17) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0__rpn_body (Memref.whole main_arg0) (Memref.isWhole_whole _) (Memref.whole main_v19) (Memref.isWhole_whole _) (Memref.whole main_v21) (Memref.isWhole_whole _) (Memref.whole main_v23) (Memref.isWhole_whole _) arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 cc0_scratch4) K } := by
  refine ⟨?_, ?_, ?_, ?_, ?_, ?_, ?_, ?_, fun W K => ?run⟩
  case run =>
    simp only [cc0__rpn_body_eq_skeleton]; unfold cc0__rpn_body_skel
    simp only [k0_part59_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HS0, HS1, HS2, HS3, Hq0, Hq1, Hh0, Hh1, Hh2, Hh3, HW, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7
    -- each operand's share in halves: two copies whose source rows overlap are in flight at once
    ihave Hx0 := (pointsTo_share (PosShare.mem_left_op_right fullShare)).1 $$ Hh0
    icases Hx0 with ⟨Hh0, Hg0⟩
    ihave Hx1 := (pointsTo_share (PosShare.mem_left_op_right fullShare)).1 $$ Hh1
    icases Hx1 with ⟨Hh1, Hg1⟩
    ihave Hx2 := (pointsTo_share (PosShare.mem_left_op_right fullShare)).1 $$ Hh2
    icases Hx2 with ⟨Hh2, Hg2⟩
    ihave Hx3 := (pointsTo_share (PosShare.mem_left_op_right fullShare)).1 $$ Hh3
    icases Hx3 with ⟨Hh3, Hg3⟩
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [Hq0]; · iexact Hq0
    isplitl [Hq1]; · iexact Hq1
    isplitl [Hh0 Hg0]
    · iapply (pointsTo_share (PosShare.mem_left_op_right fullShare)).2; isplitl [Hh0]; · iexact Hh0
      iexact Hg0
    isplitl [Hh1 Hg1]
    · iapply (pointsTo_share (PosShare.mem_left_op_right fullShare)).2; isplitl [Hh1]; · iexact Hh1
      iexact Hg1
    isplitl [Hh2 Hg2]
    · iapply (pointsTo_share (PosShare.mem_left_op_right fullShare)).2; isplitl [Hh2]; · iexact Hh2
      iexact Hg2
    isplitl [Hh3 Hg3]
    · iapply (pointsTo_share (PosShare.mem_left_op_right fullShare)).2; isplitl [Hh3]; · iexact Hh3
      iexact Hg3
    iexists _; iexact HW

end Cert.KernelIdeal.Whole

end
-- ==== Proof.Slots.lean ====
module

public import Idealize.ShloMosaic.Lib.Pointwise
public import Idealize.ShloMosaic.Lib.Writes
public import Idealize.ShloMosaic.Lib.WritesUnit
public import Idealize.ShloMosaic.Lib.ViewIndex

@[expose] public section

set_option maxRecDepth 16384

noncomputable section

/-!
What a load reads from a two-slot staging buffer after block copies into its slots. A copy writes through one slot's
window with the slot axis dropped; the lemmas read the buffer where such a copy wrote (the copied value) and where it
did not (what was there before).
-/

namespace Cert.KernelIdeal.Slots

open Idealize.ShloMosaic

variable {Val : EltTy → Type} {sig : RefSig} {κ : Kind} {sp : Space} {e : EltTy}

section General

variable {s q sq : Shape} (M : Memref sig κ sp s e)

/-- A load of exactly the window a copy wrote reads the copied block, its dropped axis back in place. -/
theorem load_hit (off : Fin s.rank → ℕ) (size : Fin s.rank → ℕ) (inb inb') (hr)
    (hq : (Rect.unit (s := s) off size inb).shape.Squeezes sq) (f : M.view.ty.Contents Val) (p : sq.Idx → Val e) :
    View.readAt Val M.view (Rect.unit off size inb').toLoadRect
        (View.write Val ((M.slice (Rect.unit off size inb) hr).squeeze sq hq).view f p Finset.univ)
      = fun j => p ((Shape.reshapeEquiv hq.numel_eq).symm j) := by
  funext j
  obtain ⟨y, rfl⟩ := (Shape.reshapeEquiv hq.numel_eq).surjective j
  rw [Equiv.symm_apply_apply]
  exact View.read_write_reshape (M.slice (Rect.unit off size inb) hr).view hq.numel_eq f p y

/-- An element outside the copy's window on some axis reads what was there before the copy. -/
theorem read_miss (off size : Fin s.rank → ℕ) (inb) (hr)
    (hq : (Rect.unit (s := s) off size inb).shape.Squeezes sq) (f : M.view.ty.Contents Val) (p : sq.Idx → Val e) (i : s.Idx)
    (a : Fin s.rank) (h : (i a).val < off a ∨ off a + size a ≤ (i a).val) :
    M.view.read Val (View.write Val ((M.slice (Rect.unit off size inb) hr).squeeze sq hq).view f p Finset.univ) i
      = M.view.read Val f i := by
  apply View.read_congr_at
  apply View.write_of_not_mem
  intro hm
  obtain ⟨x, _, hx⟩ := Finset.mem_map.mp hm
  have e1 : ((M.slice (Rect.unit off size inb) hr).squeeze sq hq).view.emb x
      = M.view.emb ((Rect.unit off size inb).emb (Shape.reshapeEquiv hq.numel_eq x)) := rfl
  rw [e1] at hx
  have h2 := congrArg (fun i : s.Idx => (i a : ℕ)) (M.view.emb.injective hx)
  simp only [Rect.emb_apply] at h2
  have h3 : off a + 1 * ((Shape.reshapeEquiv hq.numel_eq x) a).val = (i a).val := h2
  have h4 : ((Shape.reshapeEquiv hq.numel_eq x) a).val < size a := ((Shape.reshapeEquiv hq.numel_eq x) a).isLt
  omega

/-- A load whose window misses a copy's window on some axis reads as if the copy had not been made. -/
theorem load_miss (off size off' size' : Fin s.rank → ℕ) (inb inb') (hr)
    (hq : (Rect.unit (s := s) off size inb).shape.Squeezes sq) (f : M.view.ty.Contents Val) (p : sq.Idx → Val e)
    (a : Fin s.rank) (h : off' a + size' a ≤ off a ∨ off a + size a ≤ off' a) :
    View.readAt Val M.view (Rect.unit off' size' inb').toLoadRect
        (View.write Val ((M.slice (Rect.unit off size inb) hr).squeeze sq hq).view f p Finset.univ)
      = View.readAt Val M.view (Rect.unit off' size' inb').toLoadRect f := by
  funext j
  rw [View.readAt_apply, View.readAt_apply]
  refine read_miss M off size inb hr hq f p _ a ?_
  have h1 : (((Rect.unit (s := s) off' size' inb').toLoadRect.idx j) a).val = off' a + 1 * (j a).val := rfl
  have h2 : (j a).val < size' a := (j a).isLt
  omega

/-- The value a copy carries, read at an index of its window with the dropped axis in place: the source array there. -/
theorem source_symm (off size : Fin s.rank → ℕ) (inb) (hr)
    (hq : (Rect.unit (s := s) off size inb).shape.Squeezes sq) (f : M.view.ty.Contents Val) (hq' : sq.numel = (Rect.unit (s := s) off size inb).shape.numel) (j) :
    View.read Val ((M.slice (Rect.unit off size inb) hr).squeeze sq hq).view f ((Shape.reshapeEquiv hq').symm j)
      = M.view.read Val f ((Rect.unit off size inb).emb j) := by
  obtain ⟨y, rfl⟩ := (Shape.reshapeEquiv hq').surjective j
  rw [Equiv.symm_apply_apply]
  rfl

end General

section Rows

variable {N T W C : ℕ} (M : Memref sig κ sp ⟨3, ![N, T, C]⟩ e)

/-- A row of slot `a` inside the copy's window reads the copied row. -/
theorem read_row_hit (a o : ℕ) (inb) (hr)
    (hq : (Rect.unit (s := ⟨3, ![N, T, C]⟩) ![a, o, 0] ![1, W, C] inb).shape.Squeezes ⟨2, ![W, C]⟩)
    (f : M.view.ty.Contents Val) (p : (⟨2, ![W, C]⟩ : Shape).Idx → Val e)
    (n : Fin N) (r : Fin T) (c : Fin C) (hn : n.val = a) (h1 : o ≤ r.val) (h2 : r.val - o < W) :
    M.view.read Val (View.write Val ((M.slice (Rect.unit (s := ⟨3, ![N, T, C]⟩) ![a, o, 0] ![1, W, C] inb) hr).squeeze ⟨2, ![W, C]⟩ hq).view f p Finset.univ)
        (ix3 n r c)
      = p (ix2 ⟨r.val - o, h2⟩ c) := by
  have e1 : (ix3 n r c : (⟨3, ![N, T, C]⟩ : Shape).Idx)
      = (Rect.unit (s := ⟨3, ![N, T, C]⟩) ![a, o, 0] ![1, W, C] inb).emb (Shape.reshapeEquiv hq.numel_eq (ix2 ⟨r.val - o, h2⟩ c)) := by
    rw [Shape.reshapeEquiv_cons_one (n := 2) (d := ![W, C])]
    funext x
    apply Fin.ext
    rw [Rect.emb_apply]
    match x with
    | ⟨0, _⟩ => show n.val = a + 1 * 0; omega
    | ⟨1, _⟩ => show r.val = o + 1 * (r.val - o); omega
    | ⟨2, _⟩ => show c.val = 0 + 1 * c.val; omega
  rw [e1]
  exact View.read_write_reshape (M.slice (Rect.unit (s := ⟨3, ![N, T, C]⟩) ![a, o, 0] ![1, W, C] inb) hr).view hq.numel_eq f p (ix2 ⟨r.val - o, h2⟩ c)

/-- What a copy carries for row `r` of its window: row `o + r` of the source's member `a`. -/
theorem source_row (a o : ℕ) (inb) (hr)
    (hq : (Rect.unit (s := ⟨3, ![N, T, C]⟩) ![a, o, 0] ![1, W, C] inb).shape.Squeezes ⟨2, ![W, C]⟩)
    (f : M.view.ty.Contents Val) (r : Fin W) (c : Fin C) (ha : a < N) (h : o + r.val < T) :
    View.read Val ((M.slice (Rect.unit (s := ⟨3, ![N, T, C]⟩) ![a, o, 0] ![1, W, C] inb) hr).squeeze ⟨2, ![W, C]⟩ hq).view f (ix2 r c)
      = M.view.read Val f (ix3 ⟨a, ha⟩ ⟨o + r.val, h⟩ c) := by
  have e1 : ((Rect.unit (s := ⟨3, ![N, T, C]⟩) ![a, o, 0] ![1, W, C] inb).emb (Shape.reshapeEquiv hq.numel_eq (ix2 r c)))
      = (ix3 ⟨a, ha⟩ ⟨o + r.val, h⟩ c : (⟨3, ![N, T, C]⟩ : Shape).Idx) := by
    rw [Shape.reshapeEquiv_cons_one (n := 2) (d := ![W, C])]
    funext x
    apply Fin.ext
    rw [Rect.emb_apply]
    match x with
    | ⟨0, _⟩ => show a + 1 * 0 = a; omega
    | ⟨1, _⟩ => show o + 1 * r.val = o + r.val; omega
    | ⟨2, _⟩ => show 0 + 1 * c.val = c.val; omega
  rw [← e1]
  rfl

/-- A row of slot `a` inside the newest stored box reads that box's value, when the box's value is the same everywhere. -/
theorem read_box_hit (a o : ℕ) (inb) (w : (Rect.unit (s := ⟨3, ![N, T, C]⟩) ![a, o, 0] ![1, W, C] inb).shape.Idx → Val e)
    (L : List (View.Piece Val ⟨3, ![N, T, C]⟩ e)) (f : M.view.ty.Contents Val) (z : Val e) (hw : ∀ x, w x = z)
    (n : Fin N) (r : Fin T) (c : Fin C) (hn : n.val = a) (h1 : o ≤ r.val) (h2 : r.val < o + W) :
    M.view.read Val (M.view.writes Val f (⟨Rect.unit (s := ⟨3, ![N, T, C]⟩) ![a, o, 0] ![1, W, C] inb, w⟩ :: L)) (ix3 n r c) = z := by
  have hx := View.read_writes_cons_unit_of_mem (v := M.view) (f := f) (off := ![a, o, 0]) (off' := ![a, o, 0]) (size := ![1, W, C]) inb w L
    (ix3 n r c) (ix3 (⟨0, Nat.one_pos⟩ : Fin 1) (⟨r.val - o, by omega⟩ : Fin W) c) rfl (fun x => by
      match x with
      | ⟨0, _⟩ => show n.val = a + 0; omega
      | ⟨1, _⟩ => show r.val = o + (r.val - o); omega
      | ⟨2, _⟩ => show c.val = 0 + c.val; omega)
  exact hx.trans (hw _)

/-- A row outside the newest stored box, in its slot axis or its row axis, reads what the earlier stores left. -/
theorem read_box_miss (a o : ℕ) (inb) (w : (Rect.unit (s := ⟨3, ![N, T, C]⟩) ![a, o, 0] ![1, W, C] inb).shape.Idx → Val e)
    (L : List (View.Piece Val ⟨3, ![N, T, C]⟩ e)) (f : M.view.ty.Contents Val)
    (n : Fin N) (r : Fin T) (c : Fin C) (h : n.val ≠ a ∨ r.val < o ∨ o + W ≤ r.val) :
    M.view.read Val (M.view.writes Val f (⟨Rect.unit (s := ⟨3, ![N, T, C]⟩) ![a, o, 0] ![1, W, C] inb, w⟩ :: L)) (ix3 n r c)
      = M.view.read Val (M.view.writes Val f L) (ix3 n r c) := by
  by_cases hn : n.val = a
  · refine View.read_writes_cons_unit_of_not_mem (v := M.view) (f := f) inb w L (ix3 n r c) rfl (1 : Fin 3) ?_
    show r.val < o ∨ o + W ≤ r.val
    omega
  · refine View.read_writes_cons_unit_of_not_mem (v := M.view) (f := f) inb w L (ix3 n r c) rfl (0 : Fin 3) ?_
    show n.val < a ∨ a + 1 ≤ n.val
    omega

/-- A row outside a copy's window, in its slot axis or its row axis, reads what was there before the copy. -/
theorem read_row_miss (a o : ℕ) (inb) (hr)
    (hq : (Rect.unit (s := ⟨3, ![N, T, C]⟩) ![a, o, 0] ![1, W, C] inb).shape.Squeezes ⟨2, ![W, C]⟩)
    (f : M.view.ty.Contents Val) (p : (⟨2, ![W, C]⟩ : Shape).Idx → Val e)
    (n : Fin N) (r : Fin T) (c : Fin C) (h : n.val ≠ a ∨ r.val < o ∨ o + W ≤ r.val) :
    M.view.read Val (View.write Val ((M.slice (Rect.unit (s := ⟨3, ![N, T, C]⟩) ![a, o, 0] ![1, W, C] inb) hr).squeeze ⟨2, ![W, C]⟩ hq).view f p Finset.univ)
        (ix3 n r c)
      = M.view.read Val f (ix3 n r c) := by
  by_cases hn : n.val = a
  · refine read_miss M _ _ inb hr hq f p (ix3 n r c) (1 : Fin 3) ?_
    show r.val < o ∨ o + W ≤ r.val
    omega
  · refine read_miss M _ _ inb hr hq f p (ix3 n r c) (0 : Fin 3) ?_
    show n.val < a ∨ a + 1 ≤ n.val
    omega

end Rows

end Cert.KernelIdeal.Slots

end
-- ==== Proof.Core.lean ====
module

public import proofs.«01_k».proof.Proof.Gen.KernelIdeal.Skeleton

@[expose] public section

set_option maxRecDepth 16384
set_option synthInstance.maxSize 4096

noncomputable section

/-!
The arithmetic of one job of the kernel as one named composition, over any float type.

A job of the first level (`coreP`) works channel-major: the three-row neighbourhoods of a window of 2560 pixels are
stacked into 768 rows and multiplied by the three column taps of the weights, the outer two taps masked at the image's
left and right edge. A job of the other levels (`coreF`) works pixel-major on `B` pixels, its three row-shifted loads
stacked side by side. Both end in the bias, the rectifier and the sixteen head rows.
-/

namespace Cert.KernelIdeal.Core

open Idealize.ShloMosaic Cert.KernelIdeal Cert.KernelIdeal.Gen

variable {F : FTy → Type} [FloatOps F]

/-! ## Channel-major: the first level -/

/-- The window moved one pixel to the right, its last pixel first. -/
def rollR (win : FVec F S256x2560 .bf16) : FVec F S256x2560 .bf16 :=
  concatenate S256x2560 1
    [⟨S256x1, extractStridedSlice S256x1 ![0, 2559] win slices_S256x2560_o0_2559_S256x1⟩,
     ⟨S256x2559, extractStridedSlice S256x2559 ![0, 0] win slices_S256x2560_o0_0_S256x2559⟩]
    concatenates_S256x1_S256x2559_S256x2560_d1

/-- The window moved one pixel to the left, its first pixel last. -/
def rollL (win : FVec F S256x2560 .bf16) : FVec F S256x2560 .bf16 :=
  concatenate S256x2560 1
    [⟨S256x2559, extractStridedSlice S256x2559 ![0, 1] win slices_S256x2560_o0_1_S256x2559⟩,
     ⟨S256x1, extractStridedSlice S256x1 ![0, 0] win slices_S256x2560_o0_0_S256x1⟩]
    concatenates_S256x2559_S256x1_S256x2560_d1

/-- The rows above, at and below each of the 2048 pixels, one under the other. -/
def stackP (win : FVec F S256x2560 .bf16) : FVec F S768x2048 .bf16 :=
  concatenate S768x2048 0
    [⟨S256x2048, extractStridedSlice S256x2048 ![0, 128] win slices_S256x2560_o0_128_S256x2048⟩,
     ⟨S256x2048, extractStridedSlice S256x2048 ![0, 256] win slices_S256x2560_o0_256_S256x2048⟩,
     ⟨S256x2048, extractStridedSlice S256x2048 ![0, 384] win slices_S256x2560_o0_384_S256x2048⟩]
    concatenates_S256x2048_S256x2048_S256x2048_S768x2048_d0

/-- One column tap of the weights against the stacked rows. -/
def prodP (w : FVec F S1x256x768 .bf16) (win : FVec F S256x2560 .bf16) : FVec F S256x2048 .f32 :=
  matmul dot_S256x768_S768x2048_S256x2048_1_0_0_1_n_n none (shapeCast S256x768 w shapeCasts_S1x256x768_S256x768) (stackP win)
    (constant S256x2048 .f32 0x00000000#32)

/-- Zero at the pixels whose column is `edge`, the job's first pixel being `q`. -/
def maskP (q edge : BitVec 32) (x : FVec F S256x2048 .f32) : FVec F S256x2048 .f32 :=
  select
    (broadcastTo S256x2048
      (shapeCast S1x2048
        (cmpi .ne (andi (addi (iota .tc S1x2048 32 [1] iota_S1x2048_d1_w32) (broadcast S1x2048 q)) (broadcast S1x2048 127#32))
          (broadcast S1x2048 edge))
        shapeCasts_S1x2048_S1x2048)
      broadcasts_S1x2048_S256x2048)
    x (broadcast S256x2048 (Scalar.ofBits .f32 0x00000000#32))

/-- The convolution with its bias. -/
def convP (q : BitVec 32) (win : FVec F S256x2560 .bf16) (w0 w1 w2 : FVec F S1x256x768 .bf16) (cb : FVec F S256x1 .f32) :
    FVec F S256x2048 .f32 :=
  addf (addf (addf (maskP q 0#32 (prodP w0 (rollR win))) (prodP w1 win)) (maskP q 127#32 (prodP w2 (rollL win))))
    (broadcastTo S256x2048 (shapeCast S256x1 cb shapeCasts_S256x1_S256x1) broadcasts_S256x1_S256x2048)

/-- The sixteen head rows of a job. -/
def coreP (q : BitVec 32) (win : FVec F S256x2560 .bf16) (w0 w1 w2 : FVec F S1x256x768 .bf16) (cb : FVec F S256x1 .f32)
    (hw : FVec F S16x256 .bf16) (hb : FVec F S16x1 .f32) : FVec F S16x2048 .f32 :=
  addf
    (matmul dot_S16x256_S256x2048_S16x2048_1_0_0_1_n_n none (shapeCast S16x256 hw shapeCasts_S16x256_S16x256)
      (truncf .bf16 (maximumf (convP q win w0 w1 w2 cb) (broadcast S256x2048 (Scalar.ofBits .f32 0x00000000#32))) bitsLt_bf16_f32)
      (constant S16x2048 .f32 0x00000000#32))
    (broadcastTo S16x2048 (shapeCast S16x1 hb shapeCasts_S16x1_S16x1) broadcasts_S16x1_S16x2048)

/-- The window of the first band: two rows of zeros above the image, then the first eighteen rows loaded. -/
def winTop (v : FVec F S1x256x24x128 .f32) : FVec F S256x2560 .bf16 :=
  concatenate S256x2560 1
    [⟨S256x256, broadcast S256x256 (Scalar.ofBits .bf16 0x0000#16)⟩,
     ⟨S256x2304, extractStridedSlice S256x2304 ![0, 0]
        (truncf .bf16 (shapeCast S256x3072 (shapeCast S256x24x128 v shapeCasts_S1x256x24x128_S256x24x128) shapeCasts_S256x24x128_S256x3072) bitsLt_bf16_f32)
        slices_S256x3072_o0_0_S256x2304⟩]
    concatenates_S256x256_S256x2304_S256x2560_d1

/-- The window of a band inside the image: twenty rows from the seventh loaded on. -/
def winMid (v : FVec F S1x256x32x128 .f32) : FVec F S256x2560 .bf16 :=
  extractStridedSlice S256x2560 ![0, 768]
    (truncf .bf16 (shapeCast S256x4096 (shapeCast S256x32x128 v shapeCasts_S1x256x32x128_S256x32x128) shapeCasts_S256x32x128_S256x4096) bitsLt_bf16_f32)
    slices_S256x4096_o0_768_S256x2560

/-- The window of the last band: the last eighteen rows loaded, then two rows of zeros below the image. -/
def winBot (v : FVec F S1x256x24x128 .f32) : FVec F S256x2560 .bf16 :=
  concatenate S256x2560 1
    [⟨S256x2304, extractStridedSlice S256x2304 ![0, 768]
        (truncf .bf16 (shapeCast S256x3072 (shapeCast S256x24x128 v shapeCasts_S1x256x24x128_S256x24x128) shapeCasts_S256x24x128_S256x3072) bitsLt_bf16_f32)
        slices_S256x3072_o0_768_S256x2304⟩,
     ⟨S256x256, broadcast S256x256 (Scalar.ofBits .bf16 0x0000#16)⟩]
    concatenates_S256x2304_S256x256_S256x2560_d1

/-- The objectness rows of a first-level job, as stored. -/
def clsP (h : FVec F S16x2048 .f32) : FVec F S1x3x2048 .f32 :=
  shapeCast S1x3x2048 (extractStridedSlice S3x2048 ![0, 0] h slices_S16x2048_o0_0_S3x2048) shapeCasts_S3x2048_S1x3x2048

/-- The box rows of a first-level job, as stored. -/
def boxP (h : FVec F S16x2048 .f32) : FVec F S1x12x2048 .f32 :=
  shapeCast S1x12x2048 (extractStridedSlice S12x2048 ![3, 0] h slices_S16x2048_o3_0_S12x2048) shapeCasts_S12x2048_S1x12x2048

/-! ## Pixel-major: the other levels -/

/-- The shape facts of a pixel-major job on `B` pixels with `A` rows loaded. -/
structure Fits (A B : ℕ) : Prop where
  cast3 : (⟨3, ![1, A, 256]⟩ : Shape).ShapeCasts ⟨2, ![A, 256]⟩
  cat : Shape.Concatenates [⟨2, ![A, 256]⟩, ⟨2, ![A, 256]⟩, ⟨2, ![A, 256]⟩] ⟨2, ![A, 768]⟩ 1
  s7 : (⟨2, ![A, 256]⟩ : Shape).Slices ![7, 0] ⟨2, ![B, 256]⟩
  s8 : (⟨2, ![A, 256]⟩ : Shape).Slices ![8, 0] ⟨2, ![B, 256]⟩
  s9 : (⟨2, ![A, 256]⟩ : Shape).Slices ![9, 0] ⟨2, ![B, 256]⟩
  io : (⟨2, ![B, 1]⟩ : Shape).Iotas .tc 32 [0]
  castM : (⟨2, ![B, 1]⟩ : Shape).ShapeCasts ⟨2, ![B, 1]⟩
  bcM : (⟨2, ![B, 1]⟩ : Shape).Broadcasts ⟨2, ![B, 256]⟩
  bcC : S1x256.Broadcasts ⟨2, ![B, 256]⟩
  bcH : S1x16.Broadcasts ⟨2, ![B, 16]⟩
  tr : (⟨2, ![B, 16]⟩ : Shape).Transposes [1, 0] ⟨2, ![16, B]⟩

variable {A B : ℕ}

/-- The three row-shifted loads side by side. -/
def stackF (H : Fits A B) (p0 p1 p2 : FVec F ⟨3, ![1, A, 256]⟩ .f32) : FVec F ⟨2, ![A, 768]⟩ .bf16 :=
  truncf .bf16
    (concatenate ⟨2, ![A, 768]⟩ 1
      [⟨⟨2, ![A, 256]⟩, shapeCast ⟨2, ![A, 256]⟩ p0 H.cast3⟩, ⟨⟨2, ![A, 256]⟩, shapeCast ⟨2, ![A, 256]⟩ p1 H.cast3⟩,
       ⟨⟨2, ![A, 256]⟩, shapeCast ⟨2, ![A, 256]⟩ p2 H.cast3⟩] H.cat) bitsLt_bf16_f32

/-- The stacked loads against one column tap of the weights. -/
def prodF (x : FVec F ⟨2, ![A, 768]⟩ .bf16) (w : FVec F S1x768x256 .bf16) : FVec F ⟨2, ![A, 256]⟩ .f32 :=
  matmul (DotDims.plain A 768 256) none x (shapeCast S768x256 w shapeCasts_S1x768x256_S768x256)
    (constant ⟨2, ![A, 256]⟩ .f32 0x00000000#32)

/-- Zero at the pixels whose column is `edge`, the job's first pixel being `q` and `msk` the row length less one. -/
def maskF (H : Fits A B) (msk q edge : BitVec 32) (x : FVec F ⟨2, ![B, 256]⟩ .f32) : FVec F ⟨2, ![B, 256]⟩ .f32 :=
  select
    (broadcastTo ⟨2, ![B, 256]⟩
      (shapeCast ⟨2, ![B, 1]⟩
        (cmpi .ne (andi (addi (iota .tc ⟨2, ![B, 1]⟩ 32 [0] H.io) (broadcast ⟨2, ![B, 1]⟩ q)) (broadcast ⟨2, ![B, 1]⟩ msk))
          (broadcast ⟨2, ![B, 1]⟩ edge))
        H.castM)
      H.bcM)
    x (broadcast ⟨2, ![B, 256]⟩ (Scalar.ofBits .f32 0x00000000#32))

/-- The convolution with its bias. -/
def convF (H : Fits A B) (msk q : BitVec 32) (p0 p1 p2 : FVec F ⟨3, ![1, A, 256]⟩ .f32) (w0 w1 w2 : FVec F S1x768x256 .bf16)
    (cb : FVec F S1x256 .f32) : FVec F ⟨2, ![B, 256]⟩ .f32 :=
  addf
    (addf
      (addf (maskF H msk q 0#32 (extractStridedSlice ⟨2, ![B, 256]⟩ ![7, 0] (prodF (stackF H p0 p1 p2) w0) H.s7))
        (extractStridedSlice ⟨2, ![B, 256]⟩ ![8, 0] (prodF (stackF H p0 p1 p2) w1) H.s8))
      (maskF H msk q msk (extractStridedSlice ⟨2, ![B, 256]⟩ ![9, 0] (prodF (stackF H p0 p1 p2) w2) H.s9)))
    (broadcastTo ⟨2, ![B, 256]⟩ (shapeCast S1x256 (shapeCast S256 cb shapeCasts_S1x256_S256) shapeCasts_S256_S1x256) H.bcC)

/-- The sixteen head rows of a job. -/
def coreF (H : Fits A B) (msk q : BitVec 32) (p0 p1 p2 : FVec F ⟨3, ![1, A, 256]⟩ .f32) (w0 w1 w2 : FVec F S1x768x256 .bf16)
    (cb : FVec F S1x256 .f32) (hw : FVec F S256x16 .bf16) (hb : FVec F S1x16 .f32) : FVec F ⟨2, ![16, B]⟩ .f32 :=
  transpose ⟨2, ![16, B]⟩ [1, 0]
    (addf
      (matmul (DotDims.plain B 256 16) none
        (truncf .bf16 (maximumf (convF H msk q p0 p1 p2 w0 w1 w2 cb) (broadcast ⟨2, ![B, 256]⟩ (Scalar.ofBits .f32 0x00000000#32))) bitsLt_bf16_f32)
        (shapeCast S256x16 hw shapeCasts_S256x16_S256x16) (constant ⟨2, ![B, 16]⟩ .f32 0x00000000#32))
      (broadcastTo ⟨2, ![B, 16]⟩ (shapeCast S1x16 (shapeCast S16 hb shapeCasts_S1x16_S16) shapeCasts_S16_S1x16) H.bcH))
    H.tr

/-- The shape facts of the second level's jobs. -/
theorem fits1 : Fits 2064 2048 :=
  ⟨shapeCasts_S1x2064x256_S2064x256, concatenates_S2064x256_S2064x256_S2064x256_S2064x768_d1, slices_S2064x256_o7_0_S2048x256,
   slices_S2064x256_o8_0_S2048x256, slices_S2064x256_o9_0_S2048x256, iota_S2048x1_d0_w32, shapeCasts_S2048x1_S2048x1,
   broadcasts_S2048x1_S2048x256, broadcasts_S1x256_S2048x256, broadcasts_S1x16_S2048x16, transposes_S2048x16_p1_0_S16x2048⟩

/-- The shape facts of the third level's jobs. -/
theorem fits2 : Fits 1040 1024 :=
  ⟨shapeCasts_S1x1040x256_S1040x256, concatenates_S1040x256_S1040x256_S1040x256_S1040x768_d1, slices_S1040x256_o7_0_S1024x256,
   slices_S1040x256_o8_0_S1024x256, slices_S1040x256_o9_0_S1024x256, iota_S1024x1_d0_w32, shapeCasts_S1024x1_S1024x1,
   broadcasts_S1024x1_S1024x256, broadcasts_S1x256_S1024x256, broadcasts_S1x16_S1024x16, transposes_S1024x16_p1_0_S16x1024⟩

/-- The shape facts of the fourth level's jobs. -/
theorem fits3 : Fits 272 256 :=
  ⟨shapeCasts_S1x272x256_S272x256, concatenates_S272x256_S272x256_S272x256_S272x768_d1, slices_S272x256_o7_0_S256x256,
   slices_S272x256_o8_0_S256x256, slices_S272x256_o9_0_S256x256, iota_S256x1_d0_w32, shapeCasts_S256x1_S256x1,
   broadcasts_S256x1_S256x256, broadcasts_S1x256_S256x256, broadcasts_S1x16_S256x16, transposes_S256x16_p1_0_S16x256⟩

/-- The objectness rows of a third-level job, as stored. -/
def cls2 (h : FVec F S16x1024 .f32) : FVec F S1x3x1024 .f32 :=
  shapeCast S1x3x1024 (extractStridedSlice S3x1024 ![0, 0] h slices_S16x1024_o0_0_S3x1024) shapeCasts_S3x1024_S1x3x1024

/-- The box rows of a third-level job, as stored. -/
def box2 (h : FVec F S16x1024 .f32) : FVec F S1x12x1024 .f32 :=
  shapeCast S1x12x1024 (extractStridedSlice S12x1024 ![3, 0] h slices_S16x1024_o3_0_S12x1024) shapeCasts_S12x1024_S1x12x1024

/-- The objectness rows of a fourth-level job, as stored. -/
def cls3 (h : FVec F S16x256 .f32) : FVec F S1x3x256 .f32 :=
  shapeCast S1x3x256 (extractStridedSlice S3x256 ![0, 0] h slices_S16x256_o0_0_S3x256) shapeCasts_S3x256_S1x3x256

/-- The box rows of a fourth-level job, as stored. -/
def box3 (h : FVec F S16x256 .f32) : FVec F S1x12x256 .f32 :=
  shapeCast S1x12x256 (extractStridedSlice S12x256 ![3, 0] h slices_S16x256_o3_0_S12x256) shapeCasts_S12x256_S1x12x256

end Cert.KernelIdeal.Core

end
-- ==== Proof.Spec.lean ====
module

public import Idealize.ShloMosaic.Lib.Pointwise

@[expose] public section

noncomputable section

/-!
The region-proposal head as arithmetic on extended reals: a three by three convolution of the zero-padded image with a
bias, the rectifier, and a row of the head. Images and weights are functions of natural numbers, so that the kernel's
flat pixel numbers and the reference's rows and columns meet in the same terms.
-/

namespace Cert.Rpn

/-- The image with a frame of zeros one pixel wide, at padded row `y` and padded column `x`. -/
def px (S : ℕ) (X : ℕ → ℕ → EReal) (y x : ℕ) : EReal :=
  if 1 ≤ y ∧ y ≤ S ∧ 1 ≤ x ∧ x ≤ S then X (y - 1) (x - 1) else 0

/-- One tap of the convolution, summed over the channels. -/
def tap (S : ℕ) (X : ℕ → ℕ → ℕ → EReal) (W : ℕ → ℕ → ℕ → ℕ → EReal) (o y x dy dx : ℕ) : EReal :=
  ∑ c : Fin 256, W o c dy dx * px S (X c) (y + dy) (x + dx)

/-- The convolution with its bias, the taps taken column by column. -/
def conv (S : ℕ) (X : ℕ → ℕ → ℕ → EReal) (W : ℕ → ℕ → ℕ → ℕ → EReal) (b : ℕ → EReal) (o y x : ℕ) : EReal :=
  (tap S X W o y x 0 0 + tap S X W o y x 1 0 + tap S X W o y x 2 0)
    + (tap S X W o y x 0 1 + tap S X W o y x 1 1 + tap S X W o y x 2 1)
    + (tap S X W o y x 0 2 + tap S X W o y x 1 2 + tap S X W o y x 2 2) + b o

/-- One head row at one pixel: the rectified convolution's channels against the row's weights, and the row's bias. -/
def head (S : ℕ) (X : ℕ → ℕ → ℕ → EReal) (W : ℕ → ℕ → ℕ → ℕ → EReal) (b : ℕ → EReal) (hw : ℕ → ℕ → EReal) (hb : ℕ → EReal)
    (k y x : ℕ) : EReal :=
  (∑ c : Fin 256, hw k c * max (conv S X W b c y x) 0) + hb k

/-- The nine taps may be taken row by row. -/
theorem conv_rows (S : ℕ) (X : ℕ → ℕ → ℕ → EReal) (W : ℕ → ℕ → ℕ → ℕ → EReal) (b : ℕ → EReal) (o y x : ℕ) :
    conv S X W b o y x
      = tap S X W o y x 0 0 + tap S X W o y x 0 1 + tap S X W o y x 0 2
        + tap S X W o y x 1 0 + tap S X W o y x 1 1 + tap S X W o y x 1 2
        + tap S X W o y x 2 0 + tap S X W o y x 2 1 + tap S X W o y x 2 2 + b o := by
  unfold conv
  congr 1
  abel

/-- A flat image, zero outside its `S * S` pixels, at flat pixel `p` less one row and one pixel. -/
def flatPx (S : ℕ) (X : ℕ → ℕ → EReal) (p : ℕ) : EReal :=
  if S + 1 ≤ p ∧ p < S + 1 + S * S then X ((p - S - 1) / S) ((p - S - 1) % S) else 0

/-- The zero-padded image at a tap of pixel `p`, read from the flat image: zero where the tap leaves the row, else the
    flat neighbour. -/
theorem px_flat (S : ℕ) (X : ℕ → ℕ → EReal) (p dy dx : ℕ) (hS : 1 < S) (hp : p < S * S) (hdy : dy ≤ 2) (hdx : dx ≤ 2) :
    px S X (p / S + dy) (p % S + dx)
      = if (dx = 0 ∧ p % S = 0) ∨ (dx = 2 ∧ p % S = S - 1) then 0 else flatPx S X (p + S * dy + dx) := by
  obtain ⟨q, r, hr, rfl⟩ : ∃ q r, r < S ∧ p = S * q + r := ⟨p / S, p % S, Nat.mod_lt _ (by omega), (Nat.div_add_mod p S).symm⟩
  have hS0 : 0 < S := by omega
  have e1 : (S * q + r) / S = q := by rw [Nat.mul_add_div hS0, Nat.div_eq_of_lt hr]; omega
  have e2 : (S * q + r) % S = r := by rw [Nat.mul_add_mod, Nat.mod_eq_of_lt hr]
  have hq : q < S := by
    by_contra h
    have := Nat.mul_le_mul_left S (Nat.le_of_not_lt h)
    omega
  rw [e1, e2]
  by_cases hc : (dx = 0 ∧ r = 0) ∨ (dx = 2 ∧ r = S - 1)
  · rw [if_pos hc]
    unfold px
    rw [if_neg]
    omega
  · rw [if_neg hc]
    unfold px flatPx
    have hx1 : 1 ≤ r + dx := by omega
    have hx2 : r + dx ≤ S := by omega
    by_cases hy1 : q + dy = 0
    · rw [if_neg (by omega), if_neg]
      have : S * q + r + S * dy + dx = S * (q + dy) + (r + dx) := by ring
      rw [this, hy1]
      omega
    obtain ⟨z, hz⟩ : ∃ z, q + dy = z + 1 := ⟨q + dy - 1, by omega⟩
    have e3 : S * q + r + S * dy + dx = S * z + S + (r + dx) := by
      have : S * q + r + S * dy + dx = S * (q + dy) + (r + dx) := by ring
      rw [this, hz]; ring
    have e4 : S * q + r + S * dy + dx - S - 1 = S * z + (r + dx - 1) := by omega
    have hlt : r + dx - 1 < S := by omega
    have e5 : (S * z + (r + dx - 1)) / S = z := by rw [Nat.mul_add_div hS0, Nat.div_eq_of_lt hlt]; omega
    have e6 : (S * z + (r + dx - 1)) % S = r + dx - 1 := by rw [Nat.mul_add_mod, Nat.mod_eq_of_lt hlt]
    rw [e4, e5, e6]
    by_cases hy2 : z < S
    · have := Nat.mul_le_mul_left S (show z + 1 ≤ S by omega)
      rw [if_pos (by omega), if_pos, show q + dy - 1 = z by omega]
      rw [e3]
      rw [Nat.mul_add] at this
      omega
    · rw [if_neg (by omega), if_neg]
      have := Nat.mul_le_mul_left S (show S ≤ z by omega)
      rw [e3]
      omega

/-- A tap from the flat image. -/
theorem tap_flat (S : ℕ) (X : ℕ → ℕ → ℕ → EReal) (W : ℕ → ℕ → ℕ → ℕ → EReal) (o p dy dx : ℕ) (hS : 1 < S) (hp : p < S * S)
    (hdy : dy ≤ 2) (hdx : dx ≤ 2) :
    tap S X W o (p / S) (p % S) dy dx
      = if (dx = 0 ∧ p % S = 0) ∨ (dx = 2 ∧ p % S = S - 1) then 0
        else ∑ c : Fin 256, W o c dy dx * flatPx S (X c) (p + S * dy + dx) := by
  unfold tap
  split_ifs with h
  · refine Finset.sum_eq_zero fun c _ => ?_
    rw [px_flat S _ p dy dx hS hp hdy hdx, if_pos h, mul_zero]
  · refine Finset.sum_congr rfl fun c _ => ?_
    rw [px_flat S _ p dy dx hS hp hdy hdx, if_neg h]

end Cert.Rpn

end
-- ==== Proof.Arrays.lean ====
module

public import proofs.«01_k».proof.Proof.Spec
public import Idealize.ShloMosaic.Lib.Pointwise

@[expose] public section

noncomputable section

/-!
Small tools shared by the values of the jobs: arrays read at natural numbers, the column of a flat pixel number, and the
sum over three blocks of channels.
-/

namespace Cert.KernelIdeal.Core

open Idealize.ShloMosaic

/-! ## Arrays read at natural numbers -/

/-- A two-axis array at natural numbers. -/
def at2 {A B : ℕ} [NeZero A] [NeZero B] (v : (⟨2, ![A, B]⟩ : Shape).Idx → EReal) (a b : ℕ) : EReal :=
  v (ix2 (Fin.ofNat A a) (Fin.ofNat B b))

/-- A three-axis array at natural numbers. -/
def at3 {A B C : ℕ} [NeZero A] [NeZero B] [NeZero C] (v : (⟨3, ![A, B, C]⟩ : Shape).Idx → EReal) (a b c : ℕ) : EReal :=
  v (ix3 (Fin.ofNat A a) (Fin.ofNat B b) (Fin.ofNat C c))

/-- A four-axis array at natural numbers. -/
def at4 {A B C D : ℕ} [NeZero A] [NeZero B] [NeZero C] [NeZero D] (v : (⟨4, ![A, B, C, D]⟩ : Shape).Idx → EReal)
    (a b c d : ℕ) : EReal :=
  v (ix4 (Fin.ofNat A a) (Fin.ofNat B b) (Fin.ofNat C c) (Fin.ofNat D d))

/-- A number below the bound is itself. -/
theorem ofNat_of {A : ℕ} [NeZero A] (i : Fin A) (a : ℕ) (h : i.val = a) : Fin.ofNat A a = i :=
  Fin.ext (by rw [Fin.val_ofNat, ← h, Nat.mod_eq_of_lt i.isLt])

theorem at2_eq {A B : ℕ} [NeZero A] [NeZero B] (v : (⟨2, ![A, B]⟩ : Shape).Idx → EReal) (i : Fin A) (j : Fin B) (a b : ℕ)
    (h1 : i.val = a) (h2 : j.val = b) : v (ix2 i j) = at2 v a b := by
  unfold at2; rw [ofNat_of i a h1, ofNat_of j b h2]

theorem at3_eq {A B C : ℕ} [NeZero A] [NeZero B] [NeZero C] (v : (⟨3, ![A, B, C]⟩ : Shape).Idx → EReal) (i : Fin A) (j : Fin B)
    (k : Fin C) (a b c : ℕ) (h1 : i.val = a) (h2 : j.val = b) (h3 : k.val = c) : v (ix3 i j k) = at3 v a b c := by
  unfold at3; rw [ofNat_of i a h1, ofNat_of j b h2, ofNat_of k c h3]

theorem at4_eq {A B C D : ℕ} [NeZero A] [NeZero B] [NeZero C] [NeZero D] (v : (⟨4, ![A, B, C, D]⟩ : Shape).Idx → EReal)
    (i : Fin A) (j : Fin B) (k : Fin C) (l : Fin D) (a b c d : ℕ) (h1 : i.val = a) (h2 : j.val = b) (h3 : k.val = c)
    (h4 : l.val = d) : v (ix4 i j k l) = at4 v a b c d := by
  unfold at4; rw [ofNat_of i a h1, ofNat_of j b h2, ofNat_of k c h3, ofNat_of l d h4]

/-! ## The column mask -/

/-- The column of a flat pixel number, as the kernel's words compute it. -/
theorem column (k m j : ℕ) (hk : k < 32) :
    IntOp.andi (IntOp.addi (BitVec.ofNat 32 j) (BitVec.ofNat 32 m)) (BitVec.ofNat 32 (2 ^ k - 1))
      = BitVec.ofNat 32 ((m + j) % 2 ^ k) := by
  apply BitVec.eq_of_toNat_eq
  unfold IntOp.andi IntOp.addi
  have h32 : 2 ^ k < 2 ^ 32 := Nat.pow_lt_pow_right (by decide) hk
  have h1 : 0 < 2 ^ k := Nat.pos_of_ne_zero (by positivity)
  rw [BitVec.toNat_and, ← BitVec.ofNat_add, BitVec.toNat_ofNat, BitVec.toNat_ofNat, BitVec.toNat_ofNat,
    Nat.mod_eq_of_lt (show 2 ^ k - 1 < 2 ^ 32 by omega), Nat.and_two_pow_sub_one_eq_mod,
    Nat.mod_mod_of_dvd _ (pow_dvd_pow 2 (Nat.le_of_lt hk)), Nat.add_comm j m,
    Nat.mod_eq_of_lt (lt_trans (Nat.mod_lt _ h1) h32)]

/-- The kernel's choice between a value and zero at a column. -/
theorem column_select (k m j e : ℕ) (hk : k < 32) (he : e < 2 ^ k) (x : EReal) :
    Scalar.select (IntOp.cmpi CmpIPredicate.ne
        (IntOp.andi (IntOp.addi (BitVec.ofNat 32 j) (BitVec.ofNat 32 m)) (BitVec.ofNat 32 (2 ^ k - 1))) (BitVec.ofNat 32 e)) x 0
      = if (m + j) % 2 ^ k = e then 0 else x := by
  rw [column k m j hk]
  have h32 : 2 ^ k < 2 ^ 32 := Nat.pow_lt_pow_right (by decide) hk
  have h1 : 0 < 2 ^ k := Nat.pos_of_ne_zero (by positivity)
  have h2 : (m + j) % 2 ^ k < 2 ^ k := Nat.mod_lt _ h1
  have h3 : (BitVec.ofNat 32 ((m + j) % 2 ^ k) = BitVec.ofNat 32 e) ↔ (m + j) % 2 ^ k = e := by
    constructor
    · intro h
      have := congrArg BitVec.toNat h
      rwa [BitVec.toNat_ofNat, BitVec.toNat_ofNat, Nat.mod_eq_of_lt (lt_trans h2 h32), Nat.mod_eq_of_lt (lt_trans he h32)] at this
    · intro h; rw [h]
  unfold IntOp.cmpi
  by_cases h : (m + j) % 2 ^ k = e
  · rw [if_pos h, h]; simp [Scalar.select]
  · rw [if_neg h]
    have : BitVec.ofNat 32 ((m + j) % 2 ^ k) ≠ BitVec.ofNat 32 e := fun h' => h (h3.mp h')
    have h5 : BitVec.ofBool (BitVec.ofNat 32 ((m + j) % 2 ^ k) != BitVec.ofNat 32 e) = 1 := by
      rw [bne_iff_ne.mpr this]
      rfl
    unfold Scalar.select
    exact if_pos h5

/-! ## Sums and indices -/

/-- A sum over 768 positions is three sums over the channels. -/
theorem sum768 (f : Fin 768 → EReal) :
    ∑ k, f k = ∑ c : Fin 256, f ⟨c.val, by omega⟩ + (∑ c : Fin 256, f ⟨256 + c.val, by omega⟩ + ∑ c : Fin 256, f ⟨512 + c.val, by omega⟩) := by
  rw [Fin.sum_univ_two_halves 256 512 (by decide) f,
    Fin.sum_univ_two_halves (N := 512) 256 256 (by decide) (fun k => f ⟨256 + k.val, by omega⟩)]
  congr 2

/-- Two arrays of two axes agree when they agree at every pair of coordinates. -/
theorem ext2 {A B : ℕ} {α : Type} {f g : (⟨2, ![A, B]⟩ : Shape).Idx → α} (h : ∀ a b, f (ix2 a b) = g (ix2 a b)) : f = g :=
  funext fun x => by rw [eq_ix2 x]; exact h _ _

/-- Two arrays of three axes agree when they agree at every triple of coordinates. -/
theorem ext3 {A B C : ℕ} {α : Type} {f g : (⟨3, ![A, B, C]⟩ : Shape).Idx → α} (h : ∀ a b c, f (ix3 a b c) = g (ix3 a b c)) :
    f = g :=
  funext fun x => by rw [eq_ix3 x]; exact h _ _ _

end Cert.KernelIdeal.Core

end
-- ==== Proof.ValueP.lean ====
module

public import proofs.«01_k».proof.Proof.Core
public import proofs.«01_k».proof.Proof.Arrays
public import Idealize.ShloMosaic.Lib.Pointwise

@[expose] public section

set_option maxRecDepth 16384

noncomputable section

/-!
What a job of the first level computes over the extended reals: the head of its 2048 pixels.
-/

namespace Cert.KernelIdeal.Core

open Idealize.ShloMosaic Cert.KernelIdeal Cert.KernelIdeal.Gen Cert.Rpn

/-! ## The parts of a job -/

theorem rollR_apply (win : FVec Ideal S256x2560 .bf16) (c : Fin 256) (i i' : Fin 2560) (h : i.val = i'.val + 1) :
    rollR win (ix2 c i) = win (ix2 c i') := by
  pointwise [rollR]
  rw [dif_neg (by omega)]
  have e : (⟨i.val - 1, by omega⟩ : Fin 2560) = i' := Fin.ext (by show i.val - 1 = i'.val; omega)
  exact congrArg (fun k => win (ix2 c k)) e

theorem rollL_apply (win : FVec Ideal S256x2560 .bf16) (c : Fin 256) (i i' : Fin 2560) (h : i'.val = i.val + 1) :
    rollL win (ix2 c i) = win (ix2 c i') := by
  pointwise [rollL]
  rw [dif_pos (by omega)]
  have e : (⟨1 + i.val, by omega⟩ : Fin 2560) = i' := Fin.ext (by show 1 + i.val = i'.val; omega)
  exact congrArg (fun k => win (ix2 c k)) e

/-- One column tap against the stacked rows: three sums over the channels. -/
theorem prodP_apply (w : FVec Ideal S1x256x768 .bf16) (win : FVec Ideal S256x2560 .bf16) (o : Fin 256) (j : Fin 2048) :
    prodP w win (ix2 o j)
      = ∑ c : Fin 256, w (ix3 0 o ⟨c.val, by omega⟩) * win (ix2 c ⟨128 + j.val, by omega⟩)
        + (∑ c : Fin 256, w (ix3 0 o ⟨256 + c.val, by omega⟩) * win (ix2 c ⟨256 + j.val, by omega⟩)
        + ∑ c : Fin 256, w (ix3 0 o ⟨512 + c.val, by omega⟩) * win (ix2 c ⟨384 + j.val, by omega⟩)) := by
  pointwise [prodP, stackP]
  exact sum768 _

theorem maskP_apply (m e : ℕ) (he : e < 128) (x : FVec Ideal S256x2048 .f32) (o : Fin 256) (j : Fin 2048) :
    maskP (BitVec.ofNat 32 m) (BitVec.ofNat 32 e) x (ix2 o j) = if (m + j.val) % 128 = e then 0 else x (ix2 o j) := by
  pointwise [maskP]
  exact column_select 7 m j.val e (by decide) he _

/-- The image a first-level job reads. -/
def imgP (A : Vec Ideal S2x256x128x128 .f32) (n c y x : ℕ) : EReal := at4 A n c y x

/-- The window of the band that starts at pixel `m0`: the image's pixels from two rows above on, zero outside. -/
def winAt (A : Vec Ideal S2x256x128x128 .f32) (n m0 : ℕ) : FVec Ideal S256x2560 .bf16 :=
  fun x => flatPx 128 (imgP A n (x 0).val) (m0 + (x 1).val - 127)

/-- The weights of one column tap. -/
def wP (w : Vec Ideal S3x256x768 .bf16) (d : Fin 3) : FVec Ideal S1x256x768 .bf16 := fun x => w (ix3 d (x 1) (x 2))

/-- The convolution's weights as the channel-major operand holds them. -/
def wtP (w : Vec Ideal S3x256x768 .bf16) (o c dy dx : ℕ) : EReal := at3 w dx o (256 * dy + c)

/-- A column tap of a window, before its mask: the three taps of that column from the flat image. -/
theorem prodP_flat (A : Vec Ideal S2x256x128x128 .f32) (w : Vec Ideal S3x256x768 .bf16) (n m0 : ℕ) (d : Fin 3)
    (win : FVec Ideal S256x2560 .bf16) (o : Fin 256) (j : Fin 2048)
    (hwin : ∀ (c : Fin 256) (dy : Fin 3) (i : Fin 2560), i.val = 128 + 128 * dy.val + j.val →
      win (ix2 c i) = flatPx 128 (imgP A n c.val) (m0 + j.val + 128 * dy.val + d.val)) :
    prodP (wP w d) win (ix2 o j)
      = ∑ c : Fin 256, wtP w o c 0 d * flatPx 128 (imgP A n c.val) (m0 + j.val + 128 * 0 + d.val)
        + ∑ c : Fin 256, wtP w o c 1 d * flatPx 128 (imgP A n c.val) (m0 + j.val + 128 * 1 + d.val)
        + ∑ c : Fin 256, wtP w o c 2 d * flatPx 128 (imgP A n c.val) (m0 + j.val + 128 * 2 + d.val) := by
  rw [prodP_apply, ← add_assoc]
  congr 1
  · congr 1
    · refine Finset.sum_congr rfl fun c _ => ?_
      rw [hwin c 0 _ rfl]
      exact congrArg (· * _) (at3_eq w _ _ _ _ _ _ rfl rfl (by show c.val = 256 * 0 + c.val; omega))
    · refine Finset.sum_congr rfl fun c _ => ?_
      rw [hwin c 1 _ rfl]
      exact congrArg (· * _) (at3_eq w _ _ _ _ _ _ rfl rfl rfl)
  · refine Finset.sum_congr rfl fun c _ => ?_
    rw [hwin c 2 _ rfl]
    exact congrArg (· * _) (at3_eq w _ _ _ _ _ _ rfl rfl rfl)

/-- The convolution of a first-level job. -/
theorem convP_apply (A : Vec Ideal S2x256x128x128 .f32) (w : Vec Ideal S3x256x768 .bf16) (cb : Vec Ideal S256x1 .f32) (n m0 : ℕ)
    (hm : m0 + 2048 ≤ 16384) (o : Fin 256) (j : Fin 2048) :
    convP (BitVec.ofNat 32 m0) (winAt A n m0) (wP w 0) (wP w 1) (wP w 2) cb (ix2 o j)
      = conv 128 (imgP A n) (wtP w) (fun o => at2 cb o 0) o.val ((m0 + j.val) / 128) ((m0 + j.val) % 128) := by
  have hp : m0 + j.val < 128 * 128 := by omega
  have hw0 := prodP_flat A w n m0 0 (rollR (winAt A n m0)) o j (fun c dy i hi => by
    rw [rollR_apply _ c i ⟨i.val - 1, by omega⟩ (by show i.val = i.val - 1 + 1; omega)]
    unfold winAt
    show flatPx 128 (imgP A n c.val) (m0 + (i.val - 1) - 127) = _
    congr 1
    show m0 + (i.val - 1) - 127 = m0 + j.val + 128 * dy.val + 0
    omega)
  have hw1 := prodP_flat A w n m0 1 (winAt A n m0) o j (fun c dy i hi => by
    unfold winAt
    show flatPx 128 (imgP A n c.val) (m0 + i.val - 127) = _
    congr 1
    show m0 + i.val - 127 = m0 + j.val + 128 * dy.val + 1
    omega)
  have hw2 := prodP_flat A w n m0 2 (rollL (winAt A n m0)) o j (fun c dy i hi => by
    have := dy.isLt
    rw [rollL_apply _ c i ⟨i.val + 1, by omega⟩ rfl]
    unfold winAt
    show flatPx 128 (imgP A n c.val) (m0 + (i.val + 1) - 127) = _
    congr 1
    show m0 + (i.val + 1) - 127 = m0 + j.val + 128 * dy.val + 2
    omega)
  pointwise [convP]
  have m0' := maskP_apply m0 0 (by decide) (prodP (wP w 0) (rollR (winAt A n m0))) o j
  have m2' := maskP_apply m0 127 (by decide) (prodP (wP w 2) (rollL (winAt A n m0))) o j
  rw [show (0#32 : BitVec 32) = BitVec.ofNat 32 0 from rfl, show (127#32 : BitVec 32) = BitVec.ofNat 32 127 from rfl, m0', m2', hw0, hw1, hw2]
  unfold conv
  simp only [tap_flat 128 _ _ _ (m0 + j.val) _ _ (by decide) hp (show 0 ≤ 2 by decide) (show 0 ≤ 2 by decide),
    tap_flat 128 _ _ _ (m0 + j.val) _ _ (by decide) hp (show 0 ≤ 2 by decide) (show 1 ≤ 2 by decide),
    tap_flat 128 _ _ _ (m0 + j.val) _ _ (by decide) hp (show 0 ≤ 2 by decide) (show 2 ≤ 2 by decide),
    tap_flat 128 _ _ _ (m0 + j.val) _ _ (by decide) hp (show 1 ≤ 2 by decide) (show 0 ≤ 2 by decide),
    tap_flat 128 _ _ _ (m0 + j.val) _ _ (by decide) hp (show 1 ≤ 2 by decide) (show 1 ≤ 2 by decide),
    tap_flat 128 _ _ _ (m0 + j.val) _ _ (by decide) hp (show 1 ≤ 2 by decide) (show 2 ≤ 2 by decide),
    tap_flat 128 _ _ _ (m0 + j.val) _ _ (by decide) hp (show 2 ≤ 2 by decide) (show 0 ≤ 2 by decide),
    tap_flat 128 _ _ _ (m0 + j.val) _ _ (by decide) hp (show 2 ≤ 2 by decide) (show 1 ≤ 2 by decide),
    tap_flat 128 _ _ _ (m0 + j.val) _ _ (by decide) hp (show 2 ≤ 2 by decide) (show 2 ≤ 2 by decide)]
  rw [at2_eq cb o 0 o.val 0 rfl rfl]
  by_cases h0 : (m0 + j.val) % 128 = 0
  · have h1 : ¬ (m0 + j.val) % 128 = 127 := by omega
    simp [h0, h1]
  · by_cases h1 : (m0 + j.val) % 128 = 127
    · simp [h0, h1]
    · simp [h0, h1]

/-- A job of the first level computes the sixteen head rows of its pixels. -/
theorem coreP_apply (A : Vec Ideal S2x256x128x128 .f32) (w : Vec Ideal S3x256x768 .bf16) (cb : Vec Ideal S256x1 .f32)
    (hw : Vec Ideal S16x256 .bf16) (hb : Vec Ideal S16x1 .f32) (n m0 : ℕ) (hm : m0 + 2048 ≤ 16384) (r : Fin 16) (j : Fin 2048) :
    coreP (BitVec.ofNat 32 m0) (winAt A n m0) (wP w 0) (wP w 1) (wP w 2) cb hw hb (ix2 r j)
      = head 128 (imgP A n) (wtP w) (fun o => at2 cb o 0) (at2 hw) (fun k => at2 hb k 0) r.val ((m0 + j.val) / 128)
          ((m0 + j.val) % 128) := by
  have h : ∀ x : Fin 256, _ := fun x => convP_apply A w cb n m0 hm x j
  pointwise [coreP]
  unfold head
  simp only [h]
  rw [at2_eq hb r 0 r.val 0 rfl rfl]
  congr 1
  refine Finset.sum_congr rfl fun x _ => ?_
  rw [at2_eq hw r x r.val x.val rfl rfl]

/-! ## The windows of the loaded rows -/

/-- A band inside the image: thirty-two rows loaded from eight above the band on. -/
theorem winMid_eq (A : Vec Ideal S2x256x128x128 .f32) (n lo m0 : ℕ) (hm : m0 = 128 * (lo + 8)) (h2 : lo + 32 ≤ 128)
    (v : FVec Ideal S1x256x32x128 .f32)
    (hv : ∀ (c : Fin 256) (y : Fin 32) (x : Fin 128), v (ix4 0 c y x) = at4 A n c (lo + y.val) x) : winMid v = winAt A n m0 := by
  refine ext2 fun c i => ?_
  pointwise [winMid]
  rw [hv]
  unfold winAt
  show _ = flatPx 128 (imgP A n c.val) (m0 + i.val - 127)
  unfold flatPx imgP
  rw [if_pos (by omega)]
  congr 1
  · show lo + (768 + i.val) / 128 = _; omega
  · show (768 + i.val) % 128 = _; omega

/-- The first band. -/
theorem winTop_eq (A : Vec Ideal S2x256x128x128 .f32) (n : ℕ)
    (v : FVec Ideal S1x256x24x128 .f32)
    (hv : ∀ (c : Fin 256) (y : Fin 24) (x : Fin 128), v (ix4 0 c y x) = at4 A n c (0 + y.val) x) : winTop v = winAt A n 0 := by
  refine ext2 fun c i => ?_
  pointwise [winTop]
  unfold winAt
  show _ = flatPx 128 (imgP A n c.val) (0 + i.val - 127)
  unfold flatPx imgP
  by_cases h : i.val < 256
  · rw [dif_pos h, if_neg (by omega)]
  · rw [dif_neg h]
    refine (hv c _ _).trans (Eq.trans ?_ (if_pos (by omega)).symm)
    congr 1
    · show 0 + (i.val - 256) / 128 = _; omega
    · show (i.val - 256) % 128 = _; omega

/-- The last band. -/
theorem winBot_eq (A : Vec Ideal S2x256x128x128 .f32) (n : ℕ)
    (v : FVec Ideal S1x256x24x128 .f32)
    (hv : ∀ (c : Fin 256) (y : Fin 24) (x : Fin 128), v (ix4 0 c y x) = at4 A n c (104 + y.val) x) : winBot v = winAt A n 14336 := by
  refine ext2 fun c i => ?_
  pointwise [winBot]
  unfold winAt
  show _ = flatPx 128 (imgP A n c.val) (14336 + i.val - 127)
  unfold flatPx imgP
  by_cases h : i.val < 2304
  · rw [dif_pos h]
    refine (hv c _ _).trans (Eq.trans ?_ (if_pos (by omega)).symm)
    congr 1
    · show 104 + (768 + i.val) / 128 = _; omega
    · show (768 + i.val) % 128 = _; omega
  · rw [dif_neg h, if_neg (by omega)]

/-! ## The rows stored -/

theorem clsP_apply (h : FVec Ideal S16x2048 .f32) (z : Fin 1) (r : Fin 3) (j : Fin 2048) :
    clsP h (ix3 z r j) = h (ix2 ⟨0 + r.val, by omega⟩ j) := by
  pointwise [clsP]

theorem boxP_apply (h : FVec Ideal S16x2048 .f32) (z : Fin 1) (r : Fin 12) (j : Fin 2048) :
    boxP h (ix3 z r j) = h (ix2 ⟨3 + r.val, by omega⟩ j) := by
  pointwise [boxP]

end Cert.KernelIdeal.Core
end
-- ==== Proof.ValueF.lean ====
module

public import proofs.«01_k».proof.Proof.Core
public import proofs.«01_k».proof.Proof.Arrays
public import Idealize.ShloMosaic.Lib.Pointwise
public import Idealize.ShloMosaic.Lib.Pointwise.IndexVar
public import Idealize.ShloMosaic.Lib.MatmulPlain

@[expose] public section

set_option maxRecDepth 16384

noncomputable section

/-!
What a job of the other levels computes over the extended reals: the head of its `B` pixels.
-/

namespace Cert.KernelIdeal.Core

open Idealize.ShloMosaic Cert.KernelIdeal Cert.KernelIdeal.Gen Cert.Rpn

variable {A B : ℕ}

/-- The index behind a dropped leading axis of length one. -/
theorem reshape_row (h : (⟨2, ![A, 256]⟩ : Shape).numel = (⟨3, ![1, A, 256]⟩ : Shape).numel) (i : Fin A) (c : Fin 256) :
    Shape.reshapeEquiv h (ix2 i c) = ix3 0 i c := by
  have e := Shape.reshapeEquiv_cons_one (n := 2) (d := ![A, 256]) h (ix2 i c)
  refine e.trans ?_
  funext x
  match x with
  | ⟨0, _⟩ => rfl
  | ⟨1, _⟩ => rfl
  | ⟨2, _⟩ => rfl

/-- One column tap against the stacked loads: three sums over the channels. -/
theorem prodF_apply (H : Fits A B) (p0 p1 p2 : FVec Ideal ⟨3, ![1, A, 256]⟩ .f32) (w : FVec Ideal S1x768x256 .bf16) (i : Fin A) (o : Fin 256) :
    prodF (stackF H p0 p1 p2) w (ix2 i o)
      = ∑ c : Fin 256, p0 (ix3 0 i c) * w (ix3 0 ⟨c.val, by omega⟩ o)
        + (∑ c : Fin 256, p1 (ix3 0 i c) * w (ix3 0 ⟨256 + c.val, by omega⟩ o)
        + ∑ c : Fin 256, p2 (ix3 0 i c) * w (ix3 0 ⟨512 + c.val, by omega⟩ o)) := by
  pointwise [prodF, stackF]
  rw [sum768]
  congr 1
  · refine Finset.sum_congr rfl fun c _ => ?_
    rw [dif_pos c.isLt, reshape_row]
  · congr 1
    · refine Finset.sum_congr rfl fun c _ => ?_
      rw [dif_neg (by simp), dif_pos (by simp), reshape_row]
      simp
    · refine Finset.sum_congr rfl fun c _ => ?_
      rw [dif_neg (by simp; omega), dif_neg (by simp; omega), reshape_row]
      have e : (⟨512 + c.val - 256 - 256, by omega⟩ : Fin 256) = c := Fin.ext (by show 512 + c.val - 256 - 256 = c.val; omega)
      exact congrArg (fun k => p2 (ix3 0 i k) * w (ix3 0 ⟨512 + c.val, by omega⟩ o)) e

theorem maskF_apply (H : Fits A B) (hB : 1 < B) (k m e : ℕ) (hk : k < 32) (he : e < 2 ^ k) (x : FVec Ideal ⟨2, ![B, 256]⟩ .f32)
    (j : Fin B) (o : Fin 256) :
    maskF H (BitVec.ofNat 32 (2 ^ k - 1)) (BitVec.ofNat 32 m) (BitVec.ofNat 32 e) x (ix2 j o)
      = if (m + j.val) % 2 ^ k = e then 0 else x (ix2 j o) := by
  pointwise [maskF]
  have hB1 : ¬ B = 1 := by omega
  exact (congrArg (fun t : Fin B => Scalar.select (IntOp.cmpi CmpIPredicate.ne
      (IntOp.andi (IntOp.addi (BitVec.ofNat 32 t.val) (BitVec.ofNat 32 m)) (BitVec.ofNat 32 (2 ^ k - 1))) (BitVec.ofNat 32 e))
      (x (ix2 j o)) 0) (dif_neg hB1)).trans (column_select k m j.val e hk he _)

/-- The image a pixel-major job reads, its pixels numbered row by row. -/
def imgF {T : ℕ} [NeZero T] (S : ℕ) (X : Vec Ideal ⟨3, ![2, T, 256]⟩ .f32) (n c y x : ℕ) : EReal := at3 X n (S * y + x) c

/-- The rows a pixel-major job loads for the taps of image row offset `dy`: from seven pixels before its first neighbour on,
    zero outside the image. -/
def rowsAt {T : ℕ} [NeZero T] (A S : ℕ) (X : Vec Ideal ⟨3, ![2, T, 256]⟩ .f32) (n m0 dy : ℕ) : FVec Ideal ⟨3, ![1, A, 256]⟩ .f32 :=
  fun x => flatPx S (imgF S X n (x 2).val) (m0 + S * dy + (x 1).val - 7)

/-- The weights of one column tap. -/
def wF (w : Vec Ideal S3x768x256 .bf16) (d : Fin 3) : FVec Ideal S1x768x256 .bf16 := fun x => w (ix3 d (x 1) (x 2))

/-- The convolution's weights as the pixel-major operand holds them. -/
def wtF (w : Vec Ideal S3x768x256 .bf16) (o c dy dx : ℕ) : EReal := at3 w dx (256 * dy + c) o

/-- A column tap of a pixel-major job, before its mask. -/
theorem prodF_flat {T : ℕ} [NeZero T] (H : Fits A B) (S : ℕ) (X : Vec Ideal ⟨3, ![2, T, 256]⟩ .f32) (w : Vec Ideal S3x768x256 .bf16)
    (n m0 : ℕ) (d : Fin 3) (i : Fin A) (p : ℕ) (hi : i.val = p + d.val + 7) (o : Fin 256) :
    prodF (stackF H (rowsAt A S X n m0 0) (rowsAt A S X n m0 1) (rowsAt A S X n m0 2)) (wF w d) (ix2 i o)
      = ∑ c : Fin 256, wtF w o c 0 d * flatPx S (imgF S X n c.val) (m0 + p + S * 0 + d.val)
        + ∑ c : Fin 256, wtF w o c 1 d * flatPx S (imgF S X n c.val) (m0 + p + S * 1 + d.val)
        + ∑ c : Fin 256, wtF w o c 2 d * flatPx S (imgF S X n c.val) (m0 + p + S * 2 + d.val) := by
  have key : ∀ (dy : ℕ) (c : Fin 256), rowsAt A S X n m0 dy (ix3 0 i c)
      = flatPx S (imgF S X n c.val) (m0 + p + S * dy + d.val) := fun dy c => by
    show flatPx S (imgF S X n c.val) (m0 + S * dy + i.val - 7) = _
    rw [show m0 + S * dy + i.val - 7 = m0 + p + S * dy + d.val by omega]
  rw [prodF_apply, ← add_assoc]
  simp only [key]
  congr 1
  · congr 1
    · refine Finset.sum_congr rfl fun c _ => ?_
      rw [mul_comm]
      exact congrArg (· * _) (at3_eq w _ _ _ _ _ _ rfl (by show c.val = 256 * 0 + c.val; omega) rfl)
    · refine Finset.sum_congr rfl fun c _ => ?_
      rw [mul_comm]
      exact congrArg (· * _) (at3_eq w _ _ _ _ _ _ rfl rfl rfl)
  · refine Finset.sum_congr rfl fun c _ => ?_
    rw [mul_comm]
    exact congrArg (· * _) (at3_eq w _ _ _ _ _ _ rfl rfl rfl)

/-- The convolution of a pixel-major job. -/
theorem convF_apply {T : ℕ} [NeZero T] (H : Fits A B) (hB : 1 < B) (k : ℕ) (hk0 : 1 < 2 ^ k) (hk : k < 32)
    (X : Vec Ideal ⟨3, ![2, T, 256]⟩ .f32) (w : Vec Ideal S3x768x256 .bf16) (cb : Vec Ideal S1x256 .f32) (n m0 : ℕ)
    (hA : A = B + 16) (hm : m0 + B ≤ 2 ^ k * 2 ^ k) (o : Fin 256) (j : Fin B) :
    convF H (BitVec.ofNat 32 (2 ^ k - 1)) (BitVec.ofNat 32 m0) (rowsAt A (2 ^ k) X n m0 0) (rowsAt A (2 ^ k) X n m0 1)
        (rowsAt A (2 ^ k) X n m0 2) (wF w 0) (wF w 1) (wF w 2) cb (ix2 j o)
      = conv (2 ^ k) (imgF (2 ^ k) X n) (wtF w) (fun o => at2 cb 0 o) o.val ((m0 + j.val) / 2 ^ k) ((m0 + j.val) % 2 ^ k) := by
  have hj := j.isLt
  have hp : m0 + j.val < 2 ^ k * 2 ^ k := by omega
  have hw0 := prodF_flat H (2 ^ k) X w n m0 0 ⟨7 + j.val, by omega⟩ j.val (by show 7 + j.val = j.val + 0 + 7; omega) o
  have hw1 := prodF_flat H (2 ^ k) X w n m0 1 ⟨8 + j.val, by omega⟩ j.val (by show 8 + j.val = j.val + 1 + 7; omega) o
  have hw2 := prodF_flat H (2 ^ k) X w n m0 2 ⟨9 + j.val, by omega⟩ j.val (by show 9 + j.val = j.val + 2 + 7; omega) o
  pointwise [convF]
  rw [show (0#32 : BitVec 32) = BitVec.ofNat 32 0 from rfl, maskF_apply H hB k m0 0 hk (by omega),
    maskF_apply H hB k m0 (2 ^ k - 1) hk (by omega)]
  pointwise
  rw [hw0, hw1, hw2]
  unfold conv
  simp only [tap_flat (2 ^ k) _ _ _ (m0 + j.val) _ _ hk0 hp (show 0 ≤ 2 by decide) (show 0 ≤ 2 by decide),
    tap_flat (2 ^ k) _ _ _ (m0 + j.val) _ _ hk0 hp (show 0 ≤ 2 by decide) (show 1 ≤ 2 by decide),
    tap_flat (2 ^ k) _ _ _ (m0 + j.val) _ _ hk0 hp (show 0 ≤ 2 by decide) (show 2 ≤ 2 by decide),
    tap_flat (2 ^ k) _ _ _ (m0 + j.val) _ _ hk0 hp (show 1 ≤ 2 by decide) (show 0 ≤ 2 by decide),
    tap_flat (2 ^ k) _ _ _ (m0 + j.val) _ _ hk0 hp (show 1 ≤ 2 by decide) (show 1 ≤ 2 by decide),
    tap_flat (2 ^ k) _ _ _ (m0 + j.val) _ _ hk0 hp (show 1 ≤ 2 by decide) (show 2 ≤ 2 by decide),
    tap_flat (2 ^ k) _ _ _ (m0 + j.val) _ _ hk0 hp (show 2 ≤ 2 by decide) (show 0 ≤ 2 by decide),
    tap_flat (2 ^ k) _ _ _ (m0 + j.val) _ _ hk0 hp (show 2 ≤ 2 by decide) (show 1 ≤ 2 by decide),
    tap_flat (2 ^ k) _ _ _ (m0 + j.val) _ _ hk0 hp (show 2 ≤ 2 by decide) (show 2 ≤ 2 by decide)]
  rw [at2_eq cb 0 o 0 o.val rfl rfl]
  by_cases h0 : (m0 + j.val) % 2 ^ k = 0
  · have h1 : ¬ (m0 + j.val) % 2 ^ k = 2 ^ k - 1 := by omega
    have h2 : ¬ 0 = 2 ^ k - 1 := by omega
    simp [h0, h1, h2]
  · by_cases h1 : (m0 + j.val) % 2 ^ k = 2 ^ k - 1
    · have h2 : ¬ 2 ^ k - 1 = 0 := by omega
      simp [h0, h1, h2]
    · simp [h0, h1]

/-- A pixel-major job computes the sixteen head rows of its pixels. -/
theorem coreF_apply {T : ℕ} [NeZero T] (H : Fits A B) (hB : 1 < B) (k : ℕ) (hk0 : 1 < 2 ^ k) (hk : k < 32)
    (X : Vec Ideal ⟨3, ![2, T, 256]⟩ .f32) (w : Vec Ideal S3x768x256 .bf16) (cb : Vec Ideal S1x256 .f32)
    (hw : Vec Ideal S256x16 .bf16) (hb : Vec Ideal S1x16 .f32) (n m0 : ℕ)
    (hA : A = B + 16) (hm : m0 + B ≤ 2 ^ k * 2 ^ k) (r : Fin 16) (j : Fin B) :
    coreF H (BitVec.ofNat 32 (2 ^ k - 1)) (BitVec.ofNat 32 m0) (rowsAt A (2 ^ k) X n m0 0) (rowsAt A (2 ^ k) X n m0 1)
        (rowsAt A (2 ^ k) X n m0 2) (wF w 0) (wF w 1) (wF w 2) cb hw hb (ix2 r j)
      = head (2 ^ k) (imgF (2 ^ k) X n) (wtF w) (fun o => at2 cb 0 o) (fun r c => at2 hw c r) (fun r => at2 hb 0 r) r.val
          ((m0 + j.val) / 2 ^ k) ((m0 + j.val) % 2 ^ k) := by
  have h : ∀ x : Fin 256, _ := fun x => convF_apply H hB k hk0 hk X w cb n m0 hA hm x j
  pointwise [coreF]
  unfold head
  simp only [h]
  rw [at2_eq hb 0 r 0 r.val rfl rfl]
  congr 1
  refine Finset.sum_congr rfl fun x _ => ?_
  rw [at2_eq hw x r x.val r.val rfl rfl, mul_comm]

theorem cls2_apply (h : FVec Ideal S16x1024 .f32) (z : Fin 1) (r : Fin 3) (j : Fin 1024) :
    cls2 h (ix3 z r j) = h (ix2 ⟨0 + r.val, by omega⟩ j) := by
  pointwise [cls2]

theorem box2_apply (h : FVec Ideal S16x1024 .f32) (z : Fin 1) (r : Fin 12) (j : Fin 1024) :
    box2 h (ix3 z r j) = h (ix2 ⟨3 + r.val, by omega⟩ j) := by
  pointwise [box2]

theorem cls3_apply (h : FVec Ideal S16x256 .f32) (z : Fin 1) (r : Fin 3) (j : Fin 256) :
    cls3 h (ix3 z r j) = h (ix2 ⟨0 + r.val, by omega⟩ j) := by
  pointwise [cls3]

theorem box3_apply (h : FVec Ideal S16x256 .f32) (z : Fin 1) (r : Fin 12) (j : Fin 256) :
    box3 h (ix3 z r j) = h (ix2 ⟨3 + r.val, by omega⟩ j) := by
  pointwise [box3]

end Cert.KernelIdeal.Core

end
-- ==== Proof.Loads.lean ====
module

public import proofs.«01_k».proof.Proof.Run
public import proofs.«01_k».proof.Proof.Slots
public import proofs.«01_k».proof.Proof.ValueP
public import proofs.«01_k».proof.Proof.ValueF

@[expose] public section

set_option maxRecDepth 16384

noncomputable section

/-!
What the kernel's loads from its staging buffers hold: each is a part of the image that the job needs, with zero rows where
the job reaches over the image's edge.
-/

namespace Cert.KernelIdeal.Whole

open Cert.KernelIdeal Cert.KernelIdeal.Gen Cert.KernelIdeal.Slots Cert.KernelIdeal.Core Cert.Rpn
open Idealize.ShloMosaic Idealize.ShloMosaic.TcCoe Idealize.SL.Sem

/-! ## The first level -/

section Image

variable {Val : EltTy → Type} {sig : RefSig} {κ κ' : Kind} {sp sp' : Space} {e : EltTy}

/-- A load of exactly the window that a copy of a whole window wrote reads the copy's source. -/
theorem load_copy {r : ℕ} {d d' : Fin r → ℕ} {sq : Shape} (M : Memref sig κ sp ⟨r, d⟩ e) (N : Memref sig κ' sp' ⟨r, d'⟩ e) (off off' size : Fin r → ℕ)
    (inb inb1 inb') (hr hr') (hq : (Rect.unit (s := ⟨r, d⟩) off size inb).shape.Squeezes sq)
    (hq' : (Rect.unit (s := ⟨r, d'⟩) off' size inb').shape.Squeezes sq) (f : M.view.ty.Contents Val) (fh : N.view.ty.Contents Val) :
    View.readAt Val M.view (Rect.unit off size inb1).toLoadRect
        (View.write Val ((M.slice (Rect.unit off size inb) hr).squeeze sq hq).view f
          (ReadAs.same.apply (View.read Val ((N.slice (Rect.unit off' size inb') hr').squeeze sq hq').view fh)) Finset.univ)
      = fun j => N.view.read Val fh ((Rect.unit (s := ⟨r, d'⟩) off' size inb').emb j) :=
  (load_hit M off size inb inb1 hr hq f _).trans
    (funext fun j => source_symm N off' size inb' hr' hq' fh hq.numel_eq j)

end Image

/-- The rows of a first-level load, from the equation of the whole load. -/
theorem rows_of_load {R n lo : ℕ} {A : Vec Ideal S2x256x128x128 .f32} (hn : n < 2) (inb)
    {v : FVec Ideal ⟨4, ![1, 256, R, 128]⟩ .f32}
    (h : v = fun j => A ((Rect.unit (s := S2x256x128x128) ![n, 0, lo, 0] ![1, 256, R, 128] inb).emb j))
    (c : Fin 256) (y : Fin R) (x : Fin 128) : v (ix4 0 c y x) = at4 A n c (lo + y.val) x := by
  have hlo : lo + R ≤ 128 := inb (2 : Fin 4)
  have e : (Rect.unit (s := S2x256x128x128) ![n, 0, lo, 0] ![1, 256, R, 128] inb).emb (ix4 0 c y x)
      = (ix4 ⟨n, hn⟩ c ⟨lo + y.val, by omega⟩ x : S2x256x128x128.Idx) := by
    funext a
    apply Fin.ext
    rw [Rect.emb_apply]
    match a with
    | ⟨0, _⟩ => show n + 1 * 0 = n; omega
    | ⟨1, _⟩ => show 0 + 1 * c.val = c.val; omega
    | ⟨2, _⟩ => show lo + 1 * y.val = lo + y.val; omega
    | ⟨3, _⟩ => show 0 + 1 * x.val = x.val; omega
  rw [h]
  show A _ = _
  rw [e]
  exact at4_eq A _ _ _ _ _ _ _ _ rfl rfl rfl rfl

variable (c : Dev nD) (arg20 : Memref sig .tc .vmem S2x256x32x128 .f32) (fh0 : HbBuf0 (F := Ideal) c hbM0_0)
  (fs0 : Buf (Elt Ideal) (arg20.view.loc (c : Thread nD τ)))

theorem win_v18 : winTop (bodyRun.sl.v18 c arg20 fh0 fs0) = winAt fh0 0 0 :=
  winTop_eq fh0 0 _ (rows_of_load (by decide) inb_S2x256x128x128_S1x256x24x128_0_0_0_0
    ((load_miss arg20 _ _ _ _ _ _ _ _ _ _ (0 : Fin 4) (Or.inl (by decide))).trans
      (load_copy arg20 (Memref.whole main_arg0) _ _ _ _ _ _ _ _ _ _ _ fh0)))

theorem win_v105 : winMid (bodyRun.sl.v105 c arg20 fh0 fs0) = winAt fh0 0 2048 :=
  winMid_eq fh0 0 8 _ rfl (by decide) _ (rows_of_load (by decide) inb_S2x256x128x128_S1x256x32x128_0_0_8_0
    ((load_miss arg20 _ _ _ _ _ _ _ _ _ _ (0 : Fin 4) (Or.inr (by decide))).trans
      (load_copy arg20 (Memref.whole main_arg0) _ _ _ _ _ _ _ _ _ _ _ fh0)))

theorem win_v190 : winMid (bodyRun.sl.v190 c arg20 fh0 fs0) = winAt fh0 0 4096 :=
  winMid_eq fh0 0 24 _ rfl (by decide) _ (rows_of_load (by decide) inb_S2x256x128x128_S1x256x32x128_0_0_24_0
    ((load_miss arg20 _ _ _ _ _ _ _ _ _ _ (0 : Fin 4) (Or.inl (by decide))).trans
      (load_copy arg20 (Memref.whole main_arg0) _ _ _ _ _ _ _ _ _ _ _ fh0)))

theorem win_v275 : winMid (bodyRun.sl.v275 c arg20 fh0 fs0) = winAt fh0 0 6144 :=
  winMid_eq fh0 0 40 _ rfl (by decide) _ (rows_of_load (by decide) inb_S2x256x128x128_S1x256x32x128_0_0_40_0
    ((load_miss arg20 _ _ _ _ _ _ _ _ _ _ (0 : Fin 4) (Or.inr (by decide))).trans
      (load_copy arg20 (Memref.whole main_arg0) _ _ _ _ _ _ _ _ _ _ _ fh0)))

theorem win_v360 : winMid (bodyRun.sl.v360 c arg20 fh0 fs0) = winAt fh0 0 8192 :=
  winMid_eq fh0 0 56 _ rfl (by decide) _ (rows_of_load (by decide) inb_S2x256x128x128_S1x256x32x128_0_0_56_0
    ((load_miss arg20 _ _ _ _ _ _ _ _ _ _ (0 : Fin 4) (Or.inl (by decide))).trans
      (load_copy arg20 (Memref.whole main_arg0) _ _ _ _ _ _ _ _ _ _ _ fh0)))

theorem win_v445 : winMid (bodyRun.sl.v445 c arg20 fh0 fs0) = winAt fh0 0 10240 :=
  winMid_eq fh0 0 72 _ rfl (by decide) _ (rows_of_load (by decide) inb_S2x256x128x128_S1x256x32x128_0_0_72_0
    ((load_miss arg20 _ _ _ _ _ _ _ _ _ _ (0 : Fin 4) (Or.inr (by decide))).trans
      (load_copy arg20 (Memref.whole main_arg0) _ _ _ _ _ _ _ _ _ _ _ fh0)))

theorem win_v530 : winMid (bodyRun.sl.v530 c arg20 fh0 fs0) = winAt fh0 0 12288 :=
  winMid_eq fh0 0 88 _ rfl (by decide) _ (rows_of_load (by decide) inb_S2x256x128x128_S1x256x32x128_0_0_88_0
    ((load_miss arg20 _ _ _ _ _ _ _ _ _ _ (0 : Fin 4) (Or.inl (by decide))).trans
      (load_copy arg20 (Memref.whole main_arg0) _ _ _ _ _ _ _ _ _ _ _ fh0)))

theorem win_v615 : winBot (bodyRun.sl.v615 c arg20 fh0 fs0) = winAt fh0 0 14336 :=
  winBot_eq fh0 0 _ (rows_of_load (by decide) inb_S2x256x128x128_S1x256x24x128_0_0_104_0
    ((load_miss arg20 _ _ _ _ _ _ _ _ _ _ (0 : Fin 4) (Or.inr (by decide))).trans
      (load_copy arg20 (Memref.whole main_arg0) _ _ _ _ _ _ _ _ _ _ _ fh0)))

theorem win_v702 : winTop (bodyRun.sl.v702 c arg20 fh0 fs0) = winAt fh0 1 0 :=
  winTop_eq fh0 1 _ (rows_of_load (by decide) inb_S2x256x128x128_S1x256x24x128_1_0_0_0
    ((load_miss arg20 _ _ _ _ _ _ _ _ _ _ (0 : Fin 4) (Or.inl (by decide))).trans
      (load_copy arg20 (Memref.whole main_arg0) _ _ _ _ _ _ _ _ _ _ _ fh0)))

theorem win_v789 : winMid (bodyRun.sl.v789 c arg20 fh0 fs0) = winAt fh0 1 2048 :=
  winMid_eq fh0 1 8 _ rfl (by decide) _ (rows_of_load (by decide) inb_S2x256x128x128_S1x256x32x128_1_0_8_0
    ((load_miss arg20 _ _ _ _ _ _ _ _ _ _ (0 : Fin 4) (Or.inr (by decide))).trans
      (load_copy arg20 (Memref.whole main_arg0) _ _ _ _ _ _ _ _ _ _ _ fh0)))

theorem win_v874 : winMid (bodyRun.sl.v874 c arg20 fh0 fs0) = winAt fh0 1 4096 :=
  winMid_eq fh0 1 24 _ rfl (by decide) _ (rows_of_load (by decide) inb_S2x256x128x128_S1x256x32x128_1_0_24_0
    ((load_miss arg20 _ _ _ _ _ _ _ _ _ _ (0 : Fin 4) (Or.inl (by decide))).trans
      (load_copy arg20 (Memref.whole main_arg0) _ _ _ _ _ _ _ _ _ _ _ fh0)))

theorem win_v959 : winMid (bodyRun.sl.v959 c arg20 fh0 fs0) = winAt fh0 1 6144 :=
  winMid_eq fh0 1 40 _ rfl (by decide) _ (rows_of_load (by decide) inb_S2x256x128x128_S1x256x32x128_1_0_40_0
    ((load_miss arg20 _ _ _ _ _ _ _ _ _ _ (0 : Fin 4) (Or.inr (by decide))).trans
      (load_copy arg20 (Memref.whole main_arg0) _ _ _ _ _ _ _ _ _ _ _ fh0)))

theorem win_v1044 : winMid (bodyRun.sl.v1044 c arg20 fh0 fs0) = winAt fh0 1 8192 :=
  winMid_eq fh0 1 56 _ rfl (by decide) _ (rows_of_load (by decide) inb_S2x256x128x128_S1x256x32x128_1_0_56_0
    ((load_miss arg20 _ _ _ _ _ _ _ _ _ _ (0 : Fin 4) (Or.inl (by decide))).trans
      (load_copy arg20 (Memref.whole main_arg0) _ _ _ _ _ _ _ _ _ _ _ fh0)))

theorem win_v1129 : winMid (bodyRun.sl.v1129 c arg20 fh0 fs0) = winAt fh0 1 10240 :=
  winMid_eq fh0 1 72 _ rfl (by decide) _ (rows_of_load (by decide) inb_S2x256x128x128_S1x256x32x128_1_0_72_0
    ((load_miss arg20 _ _ _ _ _ _ _ _ _ _ (0 : Fin 4) (Or.inr (by decide))).trans
      (load_copy arg20 (Memref.whole main_arg0) _ _ _ _ _ _ _ _ _ _ _ fh0)))

theorem win_v1214 : winMid (bodyRun.sl.v1214 c arg20 fh0 fs0) = winAt fh0 1 12288 :=
  winMid_eq fh0 1 88 _ rfl (by decide) _ (rows_of_load (by decide) inb_S2x256x128x128_S1x256x32x128_1_0_88_0
    ((load_miss arg20 _ _ _ _ _ _ _ _ _ _ (0 : Fin 4) (Or.inl (by decide))).trans
      (load_copy arg20 (Memref.whole main_arg0) _ _ _ _ _ _ _ _ _ _ _ fh0)))

theorem win_v1299 : winBot (bodyRun.sl.v1299 c arg20 fh0 fs0) = winAt fh0 1 14336 :=
  winBot_eq fh0 1 _ (rows_of_load (by decide) inb_S2x256x128x128_S1x256x24x128_1_0_104_0
    (load_copy arg20 (Memref.whole main_arg0) _ _ _ _ _ _ _ _ _ _ _ fh0))

/-! ## The other levels -/

section Rows

variable {Val : EltTy → Type} {sig : RefSig} {κ κ' : Kind} {sp sp' : Space} {e : EltTy} {N T T' W C : ℕ}

/-- A row inside a copy's window reads the source's row. -/
theorem copied_row (M : Memref sig κ sp ⟨3, ![N, T, C]⟩ e) (M' : Memref sig κ' sp' ⟨3, ![N, T', C]⟩ e) (a o a' o' : ℕ) (inb inb') (hr hr')
    (hq : (Rect.unit (s := ⟨3, ![N, T, C]⟩) ![a, o, 0] ![1, W, C] inb).shape.Squeezes ⟨2, ![W, C]⟩)
    (hq' : (Rect.unit (s := ⟨3, ![N, T', C]⟩) ![a', o', 0] ![1, W, C] inb').shape.Squeezes ⟨2, ![W, C]⟩)
    (f : M.view.ty.Contents Val) (fh : M'.view.ty.Contents Val)
    (n : Fin N) (r : Fin T) (c : Fin C) (n' : Fin N) (r' : Fin T') (hn : n.val = a) (h1 : o ≤ r.val) (h2 : r.val < o + W)
    (hn' : n'.val = a') (hr'' : r'.val = o' + (r.val - o)) :
    M.view.read Val (View.write Val ((M.slice (Rect.unit (s := ⟨3, ![N, T, C]⟩) ![a, o, 0] ![1, W, C] inb) hr).squeeze ⟨2, ![W, C]⟩ hq).view f
        (ReadAs.same.apply (View.read Val ((M'.slice (Rect.unit (s := ⟨3, ![N, T', C]⟩) ![a', o', 0] ![1, W, C] inb') hr').squeeze ⟨2, ![W, C]⟩ hq').view fh))
        Finset.univ) (ix3 n r c)
      = M'.view.read Val fh (ix3 n' r' c) := by
  obtain ⟨n', hnl⟩ := n'
  obtain ⟨r', hrl⟩ := r'
  dsimp only at hn' hr''
  subst hn'
  subst hr''
  exact (read_row_hit M a o inb hr hq f _ n r c hn h1 (by omega)).trans
    (source_row M' n' o' inb' hr' hq' fh ⟨r.val - o, by omega⟩ c hnl hrl)

end Rows

/-- Inside the image a flat pixel is the flat array's row. -/
theorem flat_row {U : ℕ} [NeZero U] (S : ℕ) (X : Vec Ideal ⟨3, ![2, U, 256]⟩ .f32) (k p : ℕ) (hS : U = S * S) (n : Fin 2) (r : Fin U)
    (c : Fin 256) (hn : n.val = k) (hp : p = r.val + (S + 1)) :
    X (ix3 n r c) = flatPx S (imgF S X k c.val) p := by
  have hr := r.isLt
  unfold flatPx imgF
  rw [if_pos (by omega), show p - S - 1 = r.val by omega, Nat.div_add_mod]
  exact at3_eq X n r c _ _ _ hn rfl rfl

section Staging

variable {κ κ' : Kind} {sp sp' : Space} {T U : ℕ} [NeZero U] {M : Memref sig κ sp ⟨3, ![2, T, 256]⟩ .f32}
  {S : ℕ} {X : Vec Ideal ⟨3, ![2, U, 256]⟩ .f32} {k m0 a lo hi : ℕ}

/-- Rows `lo` to `hi` of slot `a` hold image `k` of a job whose first pixel is `m0`, the image's edge rows being zero. -/
def Holds (M : Memref sig κ sp ⟨3, ![2, T, 256]⟩ .f32) (S : ℕ) (X : Vec Ideal ⟨3, ![2, U, 256]⟩ .f32) (k m0 a lo hi : ℕ)
    (f : M.view.ty.Contents (Elt Ideal)) : Prop :=
  ∀ (n : Fin 2) (r : Fin T) (c : Fin 256), n.val = a → lo ≤ r.val → r.val < hi →
    M.view.read (Elt Ideal) f (ix3 n r c) = flatPx S (imgF S X k c.val) (m0 + r.val - 7)

/-- Fewer rows. -/
theorem Holds.mono {f : M.view.ty.Contents (Elt Ideal)} {lo' hi' : ℕ} (h : Holds M S X k m0 a lo hi f) (h1 : lo ≤ lo') (h2 : hi' ≤ hi) :
    Holds M S X k m0 a lo' hi' f :=
  fun n r c hn hl hh => h n r c hn (by omega) (by omega)

/-- A copy out of the image brings its rows. -/
theorem Holds.copy (M' : Memref sig κ' sp' ⟨3, ![2, U, 256]⟩ .f32) (o W o' : ℕ) {inb inb' hr hr' hq hq'} {f : M.view.ty.Contents (Elt Ideal)}
    {fh : M'.view.ty.Contents (Elt Ideal)} (hX : M'.view.read (Elt Ideal) fh = X) (hU : U = S * S) (hk : k < 2)
    (hb : o' + W ≤ U) (hm : m0 + o = o' + (S + 8)) :
    Holds M S X k m0 a o (o + W)
      (View.write (Elt Ideal) ((M.slice (Rect.unit (s := ⟨3, ![2, T, 256]⟩) ![a, o, 0] ![1, W, 256] inb) hr).squeeze ⟨2, ![W, 256]⟩ hq).view f
        (ReadAs.same.apply (View.read (Elt Ideal)
          ((M'.slice (Rect.unit (s := ⟨3, ![2, U, 256]⟩) ![k, o', 0] ![1, W, 256] inb') hr').squeeze ⟨2, ![W, 256]⟩ hq').view fh)) Finset.univ) :=
  fun n r c hn hl hh => by
    refine (copied_row M M' a o k o' inb inb' hr hr' hq hq' f fh n r c ⟨k, hk⟩ ⟨o' + (r.val - o), by omega⟩ hn hl hh rfl rfl).trans ?_
    rw [hX]
    exact flat_row S X k _ hU ⟨k, hk⟩ ⟨o' + (r.val - o), by omega⟩ c rfl
      (by show m0 + r.val - 7 = o' + (r.val - o) + (S + 1); omega)

/-- A copy into the other slot changes nothing here. -/
theorem Holds.other {b o W : ℕ} {inb hr hq p} {f : M.view.ty.Contents (Elt Ideal)} (h : Holds M S X k m0 a lo hi f) (hb : a ≠ b) :
    Holds M S X k m0 a lo hi
      (View.write (Elt Ideal) ((M.slice (Rect.unit (s := ⟨3, ![2, T, 256]⟩) ![b, o, 0] ![1, W, 256] inb) hr).squeeze ⟨2, ![W, 256]⟩ hq).view f p
        Finset.univ) :=
  fun n r c hn hl hh => (read_row_miss M b o inb hr hq f p n r c (Or.inl (by omega))).trans (h n r c hn hl hh)

/-- No store yet. -/
theorem Holds.none {f : M.view.ty.Contents (Elt Ideal)} (h : Holds M S X k m0 a lo hi f) :
    Holds M S X k m0 a lo hi (M.view.writes (Elt Ideal) f []) := h

/-- A store into the other slot changes nothing here. -/
theorem Holds.stored {b o W : ℕ} {inb w L} {f : M.view.ty.Contents (Elt Ideal)} (h : Holds M S X k m0 a lo hi (M.view.writes (Elt Ideal) f L)) (hb : a ≠ b) :
    Holds M S X k m0 a lo hi
      (M.view.writes (Elt Ideal) f (⟨Rect.unit (s := ⟨3, ![2, T, 256]⟩) ![b, o, 0] ![1, W, 256] inb, w⟩ :: L)) :=
  fun n r c hn hl hh => (read_box_miss M b o inb w L f n r c (Or.inl (by omega))).trans (h n r c hn hl hh)

/-- Zeros stored above the image. -/
theorem Holds.top {W : ℕ} {inb w L} {f : M.view.ty.Contents (Elt Ideal)} (h : Holds M S X k m0 a W hi (M.view.writes (Elt Ideal) f L))
    (hw : ∀ x, w x = (0 : EReal)) (hm : m0 + W ≤ S + 8) :
    Holds M S X k m0 a 0 hi
      (M.view.writes (Elt Ideal) f (⟨Rect.unit (s := ⟨3, ![2, T, 256]⟩) ![a, 0, 0] ![1, W, 256] inb, w⟩ :: L)) :=
  fun n r c hn hl hh => by
    by_cases h1 : r.val < W
    · refine (read_box_hit M a 0 inb w L f 0 hw n r c hn (by omega) (by omega)).trans (Eq.symm ?_)
      exact if_neg (by omega)
    · exact (read_box_miss M a 0 inb w L f n r c (Or.inr (Or.inr (by omega)))).trans (h n r c hn (by omega) hh)

/-- Zeros stored below the image. -/
theorem Holds.tail {o W : ℕ} {inb w L} {f : M.view.ty.Contents (Elt Ideal)} (h : Holds M S X k m0 a lo o (M.view.writes (Elt Ideal) f L))
    (hw : ∀ x, w x = (0 : EReal)) (hm : S * S + (S + 8) ≤ m0 + o) :
    Holds M S X k m0 a lo (o + W)
      (M.view.writes (Elt Ideal) f (⟨Rect.unit (s := ⟨3, ![2, T, 256]⟩) ![a, o, 0] ![1, W, 256] inb, w⟩ :: L)) :=
  fun n r c hn hl hh => by
    by_cases h1 : r.val < o
    · exact (read_box_miss M a o inb w L f n r c (Or.inr (Or.inl h1))).trans (h n r c hn hl h1)
    · refine (read_box_hit M a o inb w L f 0 hw n r c hn (by omega) hh).trans (Eq.symm ?_)
      exact if_neg (by omega)

/-- A pixel-major load of rows that the slot holds. -/
theorem Holds.load {A o : ℕ} {inb} {f : M.view.ty.Contents (Elt Ideal)} (h : Holds M S X k m0 a o (o + A) f) (dy : ℕ) (ho : o = S * dy) :
    View.readAt (Elt Ideal) M.view (Rect.unit (s := ⟨3, ![2, T, 256]⟩) ![a, o, 0] ![1, A, 256] inb).toLoadRect f
      = rowsAt A S X k m0 dy := by
  refine ext3 fun z i c => ?_
  have ha : a + 1 ≤ 2 := inb (0 : Fin 3)
  have hA : o + A ≤ T := inb (1 : Fin 3)
  have e : (Rect.unit (s := ⟨3, ![2, T, 256]⟩) ![a, o, 0] ![1, A, 256] inb).toLoadRect.idx (ix3 z i c)
      = (ix3 ⟨a, by omega⟩ ⟨o + i.val, by omega⟩ c : (⟨3, ![2, T, 256]⟩ : Shape).Idx) := by
    funext x
    apply Fin.ext
    match x with
    | ⟨0, _⟩ => show a + 1 * z.val = a; omega
    | ⟨1, _⟩ => show o + 1 * i.val = o + i.val; omega
    | ⟨2, _⟩ => show 0 + 1 * c.val = c.val; omega
  rw [View.readAt_apply, e, h ⟨a, by omega⟩ ⟨o + i.val, by omega⟩ c rfl (by show o ≤ o + i.val; omega) (by show o + i.val < o + A; omega)]
  show flatPx S (imgF S X k c.val) (m0 + (o + i.val) - 7) = flatPx S (imgF S X k c.val) (m0 + S * dy + i.val - 7)
  rw [ho, ← Nat.add_assoc]

end Staging

section Level1

variable (arg21 : Memref sig .tc .vmem S2x2192x256 .f32) (fh1 : HbBuf0 (F := Ideal) c hbM0_1) (fs1 : Buf (Elt Ideal) (arg21.view.loc (c : Thread nD τ)))

theorem zero133 (x) : k0_pay133 (F := Ideal) x = (0 : EReal) := by pointwise [k0_pay133]
theorem zero143 (x) : k0_pay143 (F := Ideal) x = (0 : EReal) := by pointwise [k0_pay143]
theorem zero150 (x) : k0_pay150 (F := Ideal) x = (0 : EReal) := by pointwise [k0_pay150]
theorem zero160 (x) : k0_pay160 (F := Ideal) x = (0 : EReal) := by pointwise [k0_pay160]

theorem rows_v1390 : bodyRun.sl.v1390 c arg21 fh1 fs1 = rowsAt 2064 64 fh1 0 0 0 :=
  Holds.load (((((Holds.copy (Memref.whole main_v19) 72 2120 0 rfl rfl (by decide) (by decide) (by decide)).other (by decide)).none).top zero133 (by decide)).mono (by decide) (by decide)) 0 rfl

theorem rows_v1392 : bodyRun.sl.v1392 c arg21 fh1 fs1 = rowsAt 2064 64 fh1 0 0 1 :=
  Holds.load (((((Holds.copy (Memref.whole main_v19) 72 2120 0 rfl rfl (by decide) (by decide) (by decide)).other (by decide)).none).top zero133 (by decide)).mono (by decide) (by decide)) 1 rfl

theorem rows_v1394 : bodyRun.sl.v1394 c arg21 fh1 fs1 = rowsAt 2064 64 fh1 0 0 2 :=
  Holds.load (((Holds.copy (Memref.whole main_v19) 72 2120 0 rfl rfl (by decide) (by decide) (by decide)).other (by decide)).mono (by decide) (by decide)) 2 rfl

theorem rows_v1470 : bodyRun.sl.v1470 c arg21 fh1 fs1 = rowsAt 2064 64 fh1 0 2048 0 :=
  Holds.load ((((((Holds.copy (Memref.whole main_v19) 0 2120 1976 rfl rfl (by decide) (by decide) (by decide)).none).stored (by decide))).other (by decide)).mono (by decide) (by decide)) 0 rfl

theorem rows_v1472 : bodyRun.sl.v1472 c arg21 fh1 fs1 = rowsAt 2064 64 fh1 0 2048 1 :=
  Holds.load ((((((((Holds.copy (Memref.whole main_v19) 0 2120 1976 rfl rfl (by decide) (by decide) (by decide)).none).stored (by decide))).other (by decide)).none).tail zero143 (by decide)).mono (by decide) (by decide)) 1 rfl

theorem rows_v1474 : bodyRun.sl.v1474 c arg21 fh1 fs1 = rowsAt 2064 64 fh1 0 2048 2 :=
  Holds.load ((((((((Holds.copy (Memref.whole main_v19) 0 2120 1976 rfl rfl (by decide) (by decide) (by decide)).none).stored (by decide))).other (by decide)).none).tail zero143 (by decide)).mono (by decide) (by decide)) 2 rfl

theorem rows_v1550 : bodyRun.sl.v1550 c arg21 fh1 fs1 = rowsAt 2064 64 fh1 1 0 0 :=
  Holds.load ((((((((Holds.copy (Memref.whole main_v19) 72 2120 0 rfl rfl (by decide) (by decide) (by decide)).none).stored (by decide))).other (by decide)).none).top zero150 (by decide)).mono (by decide) (by decide)) 0 rfl

theorem rows_v1552 : bodyRun.sl.v1552 c arg21 fh1 fs1 = rowsAt 2064 64 fh1 1 0 1 :=
  Holds.load ((((((((Holds.copy (Memref.whole main_v19) 72 2120 0 rfl rfl (by decide) (by decide) (by decide)).none).stored (by decide))).other (by decide)).none).top zero150 (by decide)).mono (by decide) (by decide)) 1 rfl

theorem rows_v1554 : bodyRun.sl.v1554 c arg21 fh1 fs1 = rowsAt 2064 64 fh1 1 0 2 :=
  Holds.load ((((((Holds.copy (Memref.whole main_v19) 72 2120 0 rfl rfl (by decide) (by decide) (by decide)).none).stored (by decide))).other (by decide)).mono (by decide) (by decide)) 2 rfl

theorem rows_v1630 : bodyRun.sl.v1630 c arg21 fh1 fs1 = rowsAt 2064 64 fh1 1 2048 0 :=
  Holds.load (((Holds.copy (Memref.whole main_v19) 0 2120 1976 rfl rfl (by decide) (by decide) (by decide))).mono (by decide) (by decide)) 0 rfl

theorem rows_v1632 : bodyRun.sl.v1632 c arg21 fh1 fs1 = rowsAt 2064 64 fh1 1 2048 1 :=
  Holds.load (((((Holds.copy (Memref.whole main_v19) 0 2120 1976 rfl rfl (by decide) (by decide) (by decide)).none).stored (by decide)).tail zero160 (by decide)).mono (by decide) (by decide)) 1 rfl

theorem rows_v1634 : bodyRun.sl.v1634 c arg21 fh1 fs1 = rowsAt 2064 64 fh1 1 2048 2 :=
  Holds.load (((((Holds.copy (Memref.whole main_v19) 0 2120 1976 rfl rfl (by decide) (by decide) (by decide)).none).stored (by decide)).tail zero160 (by decide)).mono (by decide) (by decide)) 2 rfl

end Level1

section Level2

variable (arg22 : Memref sig .tc .vmem S2x1104x256 .f32) (fh2 : HbBuf0 (F := Ideal) c hbM0_2) (fs2 : Buf (Elt Ideal) (arg22.view.loc (c : Thread nD τ)))

theorem zero169 (x) : k0_pay169 (F := Ideal) x = (0 : EReal) := by pointwise [k0_pay169]
theorem zero170 (x) : k0_pay170 (F := Ideal) x = (0 : EReal) := by pointwise [k0_pay170]
theorem zero179 (x) : k0_pay179 (F := Ideal) x = (0 : EReal) := by pointwise [k0_pay179]
theorem zero180 (x) : k0_pay180 (F := Ideal) x = (0 : EReal) := by pointwise [k0_pay180]

theorem rows_v1714 : bodyRun.sl.v c arg22 fh2 fs2 = rowsAt 1040 32 fh2 0 0 0 :=
  Holds.load ((((((Holds.copy (Memref.whole main_v21) 40 1024 0 rfl rfl (by decide) (by decide) (by decide)).other (by decide)).none).top zero169 (by decide)).tail zero170 (by decide)).mono (by decide) (by decide)) 0 rfl

theorem rows_v1716 : bodyRun.sl.v1716 c arg22 fh2 fs2 = rowsAt 1040 32 fh2 0 0 1 :=
  Holds.load ((((((Holds.copy (Memref.whole main_v21) 40 1024 0 rfl rfl (by decide) (by decide) (by decide)).other (by decide)).none).top zero169 (by decide)).tail zero170 (by decide)).mono (by decide) (by decide)) 1 rfl

theorem rows_v1718 : bodyRun.sl.v1718 c arg22 fh2 fs2 = rowsAt 1040 32 fh2 0 0 2 :=
  Holds.load ((((((Holds.copy (Memref.whole main_v21) 40 1024 0 rfl rfl (by decide) (by decide) (by decide)).other (by decide)).none).top zero169 (by decide)).tail zero170 (by decide)).mono (by decide) (by decide)) 2 rfl

theorem rows_v1798 : bodyRun.sl.v1798 c arg22 fh2 fs2 = rowsAt 1040 32 fh2 1 0 0 :=
  Holds.load ((((((((Holds.copy (Memref.whole main_v21) 40 1024 0 rfl rfl (by decide) (by decide) (by decide))).none).stored (by decide)).stored (by decide)).top zero179 (by decide)).tail zero180 (by decide)).mono (by decide) (by decide)) 0 rfl

theorem rows_v1800 : bodyRun.sl.v1800 c arg22 fh2 fs2 = rowsAt 1040 32 fh2 1 0 1 :=
  Holds.load ((((((((Holds.copy (Memref.whole main_v21) 40 1024 0 rfl rfl (by decide) (by decide) (by decide))).none).stored (by decide)).stored (by decide)).top zero179 (by decide)).tail zero180 (by decide)).mono (by decide) (by decide)) 1 rfl

theorem rows_v1802 : bodyRun.sl.v1802 c arg22 fh2 fs2 = rowsAt 1040 32 fh2 1 0 2 :=
  Holds.load ((((((((Holds.copy (Memref.whole main_v21) 40 1024 0 rfl rfl (by decide) (by decide) (by decide))).none).stored (by decide)).stored (by decide)).top zero179 (by decide)).tail zero180 (by decide)).mono (by decide) (by decide)) 2 rfl

end Level2

section Level3

variable (arg23 : Memref sig .tc .vmem S2x304x256 .f32) (fh3 : HbBuf0 (F := Ideal) c hbM0_3) (fs3 : Buf (Elt Ideal) (arg23.view.loc (c : Thread nD τ)))

theorem zero187 (x) : k0_pay187 (F := Ideal) x = (0 : EReal) := by pointwise [k0_pay187]
theorem zero199 (x) : k0_pay199 (F := Ideal) x = (0 : EReal) := by pointwise [k0_pay199]
theorem zero200 (x) : k0_pay200 (F := Ideal) x = (0 : EReal) := by pointwise [k0_pay200]
theorem zero189 (x) : k0_pay189 (F := Ideal) k0_pay188 x = (0 : EReal) := by pointwise [k0_pay189, k0_pay188]

theorem rows_v1882 : bodyRun.sl.v1882 c arg23 fh3 fs3 = rowsAt 272 16 fh3 0 0 0 :=
  Holds.load ((((((Holds.copy (Memref.whole main_v23) 24 256 0 rfl rfl (by decide) (by decide) (by decide)).other (by decide)).none).top zero187 (by decide)).tail zero189 (by decide)).mono (by decide) (by decide)) 0 rfl

theorem rows_v1884 : bodyRun.sl.v1884 c arg23 fh3 fs3 = rowsAt 272 16 fh3 0 0 1 :=
  Holds.load ((((((Holds.copy (Memref.whole main_v23) 24 256 0 rfl rfl (by decide) (by decide) (by decide)).other (by decide)).none).top zero187 (by decide)).tail zero189 (by decide)).mono (by decide) (by decide)) 1 rfl

theorem rows_v1886 : bodyRun.sl.v1886 c arg23 fh3 fs3 = rowsAt 272 16 fh3 0 0 2 :=
  Holds.load ((((((Holds.copy (Memref.whole main_v23) 24 256 0 rfl rfl (by decide) (by decide) (by decide)).other (by decide)).none).top zero187 (by decide)).tail zero189 (by decide)).mono (by decide) (by decide)) 2 rfl

theorem rows_v1960 : bodyRun.sl.v1960 c arg23 fh3 fs3 = rowsAt 272 16 fh3 1 0 0 :=
  Holds.load ((((((((Holds.copy (Memref.whole main_v23) 24 256 0 rfl rfl (by decide) (by decide) (by decide))).none).stored (by decide)).stored (by decide)).top zero199 (by decide)).tail zero200 (by decide)).mono (by decide) (by decide)) 0 rfl

theorem rows_v1962 : bodyRun.sl.v1962 c arg23 fh3 fs3 = rowsAt 272 16 fh3 1 0 1 :=
  Holds.load ((((((((Holds.copy (Memref.whole main_v23) 24 256 0 rfl rfl (by decide) (by decide) (by decide))).none).stored (by decide)).stored (by decide)).top zero199 (by decide)).tail zero200 (by decide)).mono (by decide) (by decide)) 1 rfl

theorem rows_v1964 : bodyRun.sl.v1964 c arg23 fh3 fs3 = rowsAt 272 16 fh3 1 0 2 :=
  Holds.load ((((((((Holds.copy (Memref.whole main_v23) 24 256 0 rfl rfl (by decide) (by decide) (by decide))).none).stored (by decide)).stored (by decide)).top zero199 (by decide)).tail zero200 (by decide)).mono (by decide) (by decide)) 2 rfl

end Level3

end Cert.KernelIdeal.Whole

end
-- ==== Proof.Pieces.lean ====
module

public import proofs.«01_k».proof.Proof.Loads
public import Idealize.ShloMosaic.Lib.WholeRead

@[expose] public section

set_option maxRecDepth 16384

noncomputable section

/-!
The stores of the kernel's eight outputs: each is one job's rows, and each holds the head of its pixels.
-/

namespace Cert.KernelIdeal.Whole

open Cert.KernelIdeal Cert.KernelIdeal.Gen Cert.KernelIdeal.Slots Cert.KernelIdeal.Core Cert.Rpn
open Idealize.ShloMosaic Idealize.ShloMosaic.TcCoe Idealize.SL.Sem

/-- A job's store: rows `R` of image `n`, `B` pixels from `m0` on. -/
def piece (R T B n m0 : ℕ) (hn : n < 2) (hm : m0 + B ≤ T) (w : Vec Ideal ⟨3, ![1, R, B]⟩ .f32) :
    View.Piece (Elt Ideal) ⟨3, ![2, R, T]⟩ .f32 :=
  ⟨Rect.unit (s := ⟨3, ![2, R, T]⟩) ![n, 0, m0] ![1, R, B] (fun a => by
    match a with
    | ⟨0, _⟩ => show n + 1 ≤ 2; omega
    | ⟨1, _⟩ => show 0 + R ≤ R; omega
    | ⟨2, _⟩ => exact hm), w⟩

/-- What a store covers. -/
theorem mem_piece (R T B n m0 : ℕ) (hn : n < 2) (hm : m0 + B ≤ T) (w : Vec Ideal ⟨3, ![1, R, B]⟩ .f32)
    (a : Fin 2) (r : Fin R) (p : Fin T) :
    (ix3 a r p : (⟨3, ![2, R, T]⟩ : Shape).Idx) ∈ (piece R T B n m0 hn hm w).1.set ↔ a.val = n ∧ m0 ≤ p.val ∧ p.val < m0 + B := by
  unfold piece
  rw [Rect.mem_set_unit]
  constructor
  · intro h
    have h0 : n ≤ a.val ∧ a.val < n + 1 := h (0 : Fin 3)
    have h2 : m0 ≤ p.val ∧ p.val < m0 + B := h (2 : Fin 3)
    omega
  · intro h x
    match x with
    | ⟨0, _⟩ => show n ≤ a.val ∧ a.val < n + 1; omega
    | ⟨1, _⟩ => show 0 ≤ r.val ∧ r.val < 0 + R; omega
    | ⟨2, _⟩ => show m0 ≤ p.val ∧ p.val < m0 + B; omega

/-- The stores hold the function `G`. -/
def Agree {s : Shape} (G : s.Idx → EReal) (L : List (View.Piece (Elt Ideal) s .f32)) : Prop :=
  ∀ p ∈ L, ∀ x, p.2 x = G (p.1.emb x)

theorem Agree.nil {s : Shape} {G : s.Idx → EReal} : Agree G [] := fun p hp => absurd hp List.not_mem_nil

theorem Agree.cons {s : Shape} {G : s.Idx → EReal} {p : View.Piece (Elt Ideal) s .f32} {L} (h : ∀ x, p.2 x = G (p.1.emb x))
    (hL : Agree G L) : Agree G (p :: L) := fun q hq => by
  rcases List.mem_cons.mp hq with rfl | hq
  · exact h
  · exact hL q hq

/-- An output array: head row `off + r` of image `n` at each pixel, pixels numbered row by row. -/
def outG (R T S off : ℕ) (hd : ℕ → ℕ → ℕ → ℕ → EReal) : Vec Ideal ⟨3, ![2, R, T]⟩ .f32 :=
  fun y => hd (y 0).val (off + (y 1).val) ((y 2).val / S) ((y 2).val % S)

/-- A store whose value is the head of its pixels agrees with the output array. -/
theorem agree_piece (R T B S off n m0 : ℕ) (hn : n < 2) (hm : m0 + B ≤ T) (hd : ℕ → ℕ → ℕ → ℕ → EReal)
    (w : Vec Ideal ⟨3, ![1, R, B]⟩ .f32)
    (h : ∀ (z : Fin 1) (r : Fin R) (j : Fin B), w (ix3 z r j) = hd n (off + r.val) ((m0 + j.val) / S) ((m0 + j.val) % S)) (x) :
    (piece R T B n m0 hn hm w).2 x = outG R T S off hd ((piece R T B n m0 hn hm w).1.emb x) := by
  change (⟨3, ![1, R, B]⟩ : Shape).Idx at x
  have hx := eq_ix3 x
  rw [hx]
  refine (h _ _ _).trans ?_
  have hz := (x 0).isLt
  have e0 : (((piece R T B n m0 hn hm w).1.emb (ix3 (x 0) (x 1) (x 2))) 0).val = n := by
    show n + 1 * (x 0).val = n
    have : (x 0).val < 1 := hz
    omega
  have e1 : (((piece R T B n m0 hn hm w).1.emb (ix3 (x 0) (x 1) (x 2))) 1).val = (x 1).val := by
    show 0 + 1 * (x 1).val = (x 1).val
    omega
  have e2 : (((piece R T B n m0 hn hm w).1.emb (ix3 (x 0) (x 1) (x 2))) 2).val = m0 + (x 2).val := by
    show m0 + 1 * (x 2).val = m0 + (x 2).val
    omega
  unfold outG
  rw [e0, e1, e2]

/-- The head of an image of the first level, from the channel-major operands. -/
def headP (w : Vec Ideal S3x256x768 .bf16) (cb : Vec Ideal S256x1 .f32) (hw : Vec Ideal S16x256 .bf16) (hb : Vec Ideal S16x1 .f32)
    (A : Vec Ideal S2x256x128x128 .f32) (n : ℕ) : ℕ → ℕ → ℕ → EReal :=
  head 128 (imgP A n) (wtP w) (fun o => at2 cb o 0) (at2 hw) (fun k => at2 hb k 0)

/-- The head of an image of another level, from the pixel-major operands. -/
def headF {U : ℕ} [NeZero U] (S : ℕ) (w : Vec Ideal S3x768x256 .bf16) (cb : Vec Ideal S1x256 .f32) (hw : Vec Ideal S256x16 .bf16)
    (hb : Vec Ideal S1x16 .f32) (X : Vec Ideal ⟨3, ![2, U, 256]⟩ .f32) (n : ℕ) : ℕ → ℕ → ℕ → EReal :=
  head S (imgF S X n) (wtF w) (fun o => at2 cb 0 o) (fun r c => at2 hw c r) (fun r => at2 hb 0 r)

section Jobs

variable (arg4 : Memref sig .tc .vmem S3x256x768 .bf16) (harg4 : arg4.IsWhole) (arg5 : Memref sig .tc .vmem S3x768x256 .bf16) (harg5 : arg5.IsWhole) (arg6 : Memref sig .tc .vmem S256x1 .f32) (harg6 : arg6.IsWhole) (arg7 : Memref sig .tc .vmem S1x256 .f32) (harg7 : arg7.IsWhole) (arg8 : Memref sig .tc .vmem S16x256 .bf16) (harg8 : arg8.IsWhole) (arg9 : Memref sig .tc .vmem S256x16 .bf16) (harg9 : arg9.IsWhole) (arg10 : Memref sig .tc .vmem S16x1 .f32) (harg10 : arg10.IsWhole) (arg11 : Memref sig .tc .vmem S1x16 .f32) (harg11 : arg11.IsWhole)
  (x0 : Vec Ideal S3x256x768 .bf16) (x1 : Vec Ideal S3x768x256 .bf16) (x2 : Vec Ideal S256x1 .f32) (x3 : Vec Ideal S1x256 .f32) (x4 : Vec Ideal S16x256 .bf16) (x5 : Vec Ideal S256x16 .bf16) (x6 : Vec Ideal S16x1 .f32) (x7 : Vec Ideal S1x16 .f32)

/-- A job of the first level on a window, its operands read from their buffers. -/
def jobP (q : BitVec 32) (win : FVec Ideal S256x2560 .bf16) : FVec Ideal S16x2048 .f32 :=
  coreP q win (View.readAt (Elt Ideal) arg4.view (Rect.unit (s := S3x256x768) ![0, 0, 0] S1x256x768.size inb_S3x256x768_S1x256x768_0_0_0).toLoadRect (harg4.unread x0))
   (View.readAt (Elt Ideal) arg4.view (Rect.unit (s := S3x256x768) ![1, 0, 0] S1x256x768.size inb_S3x256x768_S1x256x768_1_0_0).toLoadRect (harg4.unread x0))
   (View.readAt (Elt Ideal) arg4.view (Rect.unit (s := S3x256x768) ![2, 0, 0] S1x256x768.size inb_S3x256x768_S1x256x768_2_0_0).toLoadRect (harg4.unread x0))
   (View.readAt (Elt Ideal) arg6.view (Rect.unit (s := S256x1) ![0, 0] S256x1.size inb_S256x1_S256x1_0_0).toLoadRect (harg6.unread x2))
   (View.readAt (Elt Ideal) arg8.view (Rect.unit (s := S16x256) ![0, 0] S16x256.size inb_S16x256_S16x256_0_0).toLoadRect (harg8.unread x4))
   (View.readAt (Elt Ideal) arg10.view (Rect.unit (s := S16x1) ![0, 0] S16x1.size inb_S16x1_S16x1_0_0).toLoadRect (harg10.unread x6))

/-- A job of another level on its three loads, its operands read from their buffers. -/
def jobF {A B : ℕ} (H : Fits A B) (msk : BitVec 32) (q : BitVec 32) (p0 p1 p2 : FVec Ideal ⟨3, ![1, A, 256]⟩ .f32) : FVec Ideal ⟨2, ![16, B]⟩ .f32 :=
  coreF H msk q p0 p1 p2 (View.readAt (Elt Ideal) arg5.view (Rect.unit (s := S3x768x256) ![0, 0, 0] S1x768x256.size inb_S3x768x256_S1x768x256_0_0_0).toLoadRect (harg5.unread x1))
   (View.readAt (Elt Ideal) arg5.view (Rect.unit (s := S3x768x256) ![1, 0, 0] S1x768x256.size inb_S3x768x256_S1x768x256_1_0_0).toLoadRect (harg5.unread x1))
   (View.readAt (Elt Ideal) arg5.view (Rect.unit (s := S3x768x256) ![2, 0, 0] S1x768x256.size inb_S3x768x256_S1x768x256_2_0_0).toLoadRect (harg5.unread x1))
   (View.readAt (Elt Ideal) arg7.view (Rect.unit (s := S1x256) ![0, 0] S1x256.size inb_S1x256_S1x256_0_0).toLoadRect (harg7.unread x3))
   (View.readAt (Elt Ideal) arg9.view (Rect.unit (s := S256x16) ![0, 0] S256x16.size inb_S256x16_S256x16_0_0).toLoadRect (harg9.unread x5))
   (View.readAt (Elt Ideal) arg11.view (Rect.unit (s := S1x16) ![0, 0] S1x16.size inb_S1x16_S1x16_0_0).toLoadRect (harg11.unread x7))

/-- A load of a whole two-axis buffer. -/
theorem whole2 {A B : ℕ} {e : EltTy} (m : Memref sig .tc .vmem ⟨2, ![A, B]⟩ e) (h : m.IsWhole) (x : Vec Ideal ⟨2, ![A, B]⟩ e) (inb) :
    View.readAt (Elt Ideal) m.view (Rect.unit (s := ⟨2, ![A, B]⟩) ![0, 0] ![A, B] inb).toLoadRect (h.unread x) = x := by
  funext j
  rw [h.readAt_unread]
  congr 1
  funext a
  apply Fin.ext
  match a with
  | ⟨0, _⟩ => show 0 + 1 * (j 0).val = (j 0).val; omega
  | ⟨1, _⟩ => show 0 + 1 * (j 1).val = (j 1).val; omega

/-- A load of one member of a three-axis buffer. -/
theorem member3 {A B : ℕ} {e : EltTy} (m : Memref sig .tc .vmem ⟨3, ![3, A, B]⟩ e) (h : m.IsWhole) (x : Vec Ideal ⟨3, ![3, A, B]⟩ e) (d : Fin 3) (o : ℕ)
    (ho : d.val = o) (inb) :
    View.readAt (Elt Ideal) m.view (Rect.unit (s := ⟨3, ![3, A, B]⟩) ![o, 0, 0] ![1, A, B] inb).toLoadRect (h.unread x)
      = fun j : (⟨3, ![1, A, B]⟩ : Shape).Idx => x (ix3 d (j 1) (j 2)) := by
  funext j
  rw [h.readAt_unread]
  congr 1
  have hj : (j 0).val < 1 := (j 0).isLt
  funext a
  apply Fin.ext
  match a with
  | ⟨0, _⟩ => show o + 1 * (j 0).val = d.val; omega
  | ⟨1, _⟩ => show 0 + 1 * (j 1).val = (j 1).val; omega
  | ⟨2, _⟩ => show 0 + 1 * (j 2).val = (j 2).val; omega

theorem jobP_apply (A : Vec Ideal S2x256x128x128 .f32) (n m0 : ℕ) (hm : m0 + 2048 ≤ 16384) (win) (hwin : win = winAt A n m0) (r : Fin 16) (j : Fin 2048) :
    jobP arg4 harg4 arg6 harg6 arg8 harg8 arg10 harg10 x0 x2 x4 x6 (BitVec.ofNat 32 m0) win (ix2 r j)
      = headP x0 x2 x4 x6 A n r.val ((m0 + j.val) / 128) ((m0 + j.val) % 128) := by
  unfold jobP headP
  rw [hwin]
  have e := coreP_apply A x0 x2 x4 x6 n m0 hm r j
  rw [← e]
  congr 1
  congr 1
  · exact member3 arg4 harg4 x0 0 0 rfl _
  · exact member3 arg4 harg4 x0 1 1 rfl _
  · exact member3 arg4 harg4 x0 2 2 rfl _
  · exact whole2 arg6 harg6 x2 _
  · exact whole2 arg8 harg8 x4 _
  · exact whole2 arg10 harg10 x6 _

theorem jobF_apply {U A B : ℕ} [NeZero U] (k : ℕ) (hk0 : 1 < 2 ^ k) (hk : k < 32) (H : Fits A B) (hB : 1 < B) (hA : A = B + 16)
    (X : Vec Ideal ⟨3, ![2, U, 256]⟩ .f32) (n m0 : ℕ) (hm : m0 + B ≤ 2 ^ k * 2 ^ k) (p0 p1 p2)
    (h0 : p0 = rowsAt A (2 ^ k) X n m0 0) (h1 : p1 = rowsAt A (2 ^ k) X n m0 1) (h2 : p2 = rowsAt A (2 ^ k) X n m0 2) (r : Fin 16) (j : Fin B) :
    jobF arg5 harg5 arg7 harg7 arg9 harg9 arg11 harg11 x1 x3 x5 x7 H (BitVec.ofNat 32 (2 ^ k - 1)) (BitVec.ofNat 32 m0) p0 p1 p2 (ix2 r j)
      = headF (2 ^ k) x1 x3 x5 x7 X n r.val ((m0 + j.val) / 2 ^ k) ((m0 + j.val) % 2 ^ k) := by
  unfold jobF headF
  rw [h0, h1, h2]
  have e := coreF_apply H hB k hk0 hk X x1 x3 x5 x7 n m0 hA hm r j
  rw [← e]
  congr 1
  congr 1
  · exact member3 arg5 harg5 x1 0 0 rfl _
  · exact member3 arg5 harg5 x1 1 1 rfl _
  · exact member3 arg5 harg5 x1 2 2 rfl _
  · exact whole2 arg7 harg7 x3 _
  · exact whole2 arg9 harg9 x5 _
  · exact whole2 arg11 harg11 x7 _

/-- A first-level job's store of some of its rows agrees with the output. -/
theorem agree_P (R off : ℕ) (st : FVec Ideal S16x2048 .f32 → FVec Ideal ⟨3, ![1, R, 2048]⟩ .f32) (hR : off + R ≤ 16)
    (A : Vec Ideal S2x256x128x128 .f32) (n m0 : ℕ) (hn : n < 2) (hm : m0 + 2048 ≤ 16384) (win) (hwin : win = winAt A n m0)
    (hst : ∀ (h : FVec Ideal S16x2048 .f32) (z : Fin 1) (r : Fin R) (j : Fin 2048), st h (ix3 z r j) = h (ix2 ⟨off + r.val, by omega⟩ j)) (x) :
    (piece R 16384 2048 n m0 hn hm (st (jobP arg4 harg4 arg6 harg6 arg8 harg8 arg10 harg10 x0 x2 x4 x6 (BitVec.ofNat 32 m0) win))).2 x
      = outG R 16384 128 off (headP x0 x2 x4 x6 A) ((piece R 16384 2048 n m0 hn hm
          (st (jobP arg4 harg4 arg6 harg6 arg8 harg8 arg10 harg10 x0 x2 x4 x6 (BitVec.ofNat 32 m0) win))).1.emb x) :=
  agree_piece R 16384 2048 128 off n m0 hn hm _ _ (fun z r j => (hst _ z r j).trans
    (jobP_apply arg4 harg4 arg6 harg6 arg8 harg8 arg10 harg10 x0 x2 x4 x6 A n m0 hm win hwin _ j)) x

/-- A job of another level: its store of some of its rows agrees with the output. -/
theorem agree_F {U A B : ℕ} [NeZero U] (k : ℕ) (hk0 : 1 < 2 ^ k) (hk : k < 32) (H : Fits A B) (hB : 1 < B) (hA : A = B + 16) (R off : ℕ)
    (st : FVec Ideal ⟨2, ![16, B]⟩ .f32 → FVec Ideal ⟨3, ![1, R, B]⟩ .f32) (hR : off + R ≤ 16)
    (X : Vec Ideal ⟨3, ![2, U, 256]⟩ .f32) (n m0 : ℕ) (hn : n < 2) (hU : m0 + B ≤ U) (hm : m0 + B ≤ 2 ^ k * 2 ^ k) (p0 p1 p2)
    (h0 : p0 = rowsAt A (2 ^ k) X n m0 0) (h1 : p1 = rowsAt A (2 ^ k) X n m0 1) (h2 : p2 = rowsAt A (2 ^ k) X n m0 2)
    (hst : ∀ (h : FVec Ideal ⟨2, ![16, B]⟩ .f32) (z : Fin 1) (r : Fin R) (j : Fin B), st h (ix3 z r j) = h (ix2 ⟨off + r.val, by omega⟩ j)) (x) :
    (piece R U B n m0 hn hU (st (jobF arg5 harg5 arg7 harg7 arg9 harg9 arg11 harg11 x1 x3 x5 x7 H (BitVec.ofNat 32 (2 ^ k - 1)) (BitVec.ofNat 32 m0) p0 p1 p2))).2 x
      = outG R U (2 ^ k) off (headF (2 ^ k) x1 x3 x5 x7 X) ((piece R U B n m0 hn hU
          (st (jobF arg5 harg5 arg7 harg7 arg9 harg9 arg11 harg11 x1 x3 x5 x7 H (BitVec.ofNat 32 (2 ^ k - 1)) (BitVec.ofNat 32 m0) p0 p1 p2))).1.emb x) :=
  agree_piece R U B (2 ^ k) off n m0 hn hU _ _ (fun z r j => (hst _ z r j).trans
    (jobF_apply arg5 harg5 arg7 harg7 arg9 harg9 arg11 harg11 x1 x3 x5 x7 k hk0 hk H hB hA X n m0 hm p0 p1 p2 h0 h1 h2 _ j)) x

end Jobs

/-- A buffer written by stores that cover it and agree with `G` reads `G`. -/
theorem reads_of_agree {R T : ℕ} (v : View sig .tc .vmem ⟨3, ![2, R, T]⟩ .f32) (f : v.ty.Contents (Elt Ideal)) {G : Vec Ideal ⟨3, ![2, R, T]⟩ .f32}
    {L : List (View.Piece (Elt Ideal) ⟨3, ![2, R, T]⟩ .f32)} (h : Agree G L)
    (hc : ∀ (a : Fin 2) (r : Fin R) (p : Fin T), ∃ q ∈ L, (ix3 a r p : (⟨3, ![2, R, T]⟩ : Shape).Idx) ∈ q.1.set) :
    v.read (Elt Ideal) (v.writes (Elt Ideal) f L) = G :=
  ext3 fun a r p => View.read_writes_apply_of_pieces v f G L h (ix3 a r p) (hc a r p)

/-! ## The eight outputs -/

/-- Output 1: the objectness of the first level. -/
def want1 (x0 : Vec Ideal S3x256x768 .bf16) (x2 : Vec Ideal S256x1 .f32) (x4 : Vec Ideal S16x256 .bf16) (x6 : Vec Ideal S16x1 .f32)
    (A : Vec Ideal S2x256x128x128 .f32) : Vec Ideal S2x3x16384 .f32 :=
  outG 3 16384 128 0 (headP x0 x2 x4 x6 A)

/-- Output 2: the boxes of the first level. -/
def want2 (x0 : Vec Ideal S3x256x768 .bf16) (x2 : Vec Ideal S256x1 .f32) (x4 : Vec Ideal S16x256 .bf16) (x6 : Vec Ideal S16x1 .f32)
    (A : Vec Ideal S2x256x128x128 .f32) : Vec Ideal S2x12x16384 .f32 :=
  outG 12 16384 128 3 (headP x0 x2 x4 x6 A)

/-- Output 3: the objectness of level 2. -/
def want3 (x1 : Vec Ideal S3x768x256 .bf16) (x3 : Vec Ideal S1x256 .f32) (x5 : Vec Ideal S256x16 .bf16) (x7 : Vec Ideal S1x16 .f32)
    (X : Vec Ideal S2x4096x256 .f32) : Vec Ideal S2x3x4096 .f32 :=
  outG 3 4096 64 0 (headF 64 x1 x3 x5 x7 X)

/-- Output 4: the boxes of level 2. -/
def want4 (x1 : Vec Ideal S3x768x256 .bf16) (x3 : Vec Ideal S1x256 .f32) (x5 : Vec Ideal S256x16 .bf16) (x7 : Vec Ideal S1x16 .f32)
    (X : Vec Ideal S2x4096x256 .f32) : Vec Ideal S2x12x4096 .f32 :=
  outG 12 4096 64 3 (headF 64 x1 x3 x5 x7 X)

/-- Output 5: the objectness of level 3. -/
def want5 (x1 : Vec Ideal S3x768x256 .bf16) (x3 : Vec Ideal S1x256 .f32) (x5 : Vec Ideal S256x16 .bf16) (x7 : Vec Ideal S1x16 .f32)
    (X : Vec Ideal S2x1024x256 .f32) : Vec Ideal S2x3x1024 .f32 :=
  outG 3 1024 32 0 (headF 32 x1 x3 x5 x7 X)

/-- Output 6: the boxes of level 3. -/
def want6 (x1 : Vec Ideal S3x768x256 .bf16) (x3 : Vec Ideal S1x256 .f32) (x5 : Vec Ideal S256x16 .bf16) (x7 : Vec Ideal S1x16 .f32)
    (X : Vec Ideal S2x1024x256 .f32) : Vec Ideal S2x12x1024 .f32 :=
  outG 12 1024 32 3 (headF 32 x1 x3 x5 x7 X)

/-- Output 7: the objectness of level 4. -/
def want7 (x1 : Vec Ideal S3x768x256 .bf16) (x3 : Vec Ideal S1x256 .f32) (x5 : Vec Ideal S256x16 .bf16) (x7 : Vec Ideal S1x16 .f32)
    (X : Vec Ideal S2x256x256 .f32) : Vec Ideal S2x3x256 .f32 :=
  outG 3 256 16 0 (headF 16 x1 x3 x5 x7 X)

/-- Output 8: the boxes of level 4. -/
def want8 (x1 : Vec Ideal S3x768x256 .bf16) (x3 : Vec Ideal S1x256 .f32) (x5 : Vec Ideal S256x16 .bf16) (x7 : Vec Ideal S1x16 .f32)
    (X : Vec Ideal S2x256x256 .f32) : Vec Ideal S2x12x256 .f32 :=
  outG 12 256 16 3 (headF 16 x1 x3 x5 x7 X)

/-- The stores of output 1, job by job, newest first. -/
def stores1 (c : Dev nD) (arg4 : Memref sig .tc .vmem S3x256x768 .bf16) (harg4 : arg4.IsWhole) (arg6 : Memref sig .tc .vmem S256x1 .f32) (harg6 : arg6.IsWhole) (arg8 : Memref sig .tc .vmem S16x256 .bf16) (harg8 : arg8.IsWhole) (arg10 : Memref sig .tc .vmem S16x1 .f32) (harg10 : arg10.IsWhole) (arg20 : Memref sig .tc .vmem S2x256x32x128 .f32) (x0 : Vec Ideal S3x256x768 .bf16) (x2 : Vec Ideal S256x1 .f32) (x4 : Vec Ideal S16x256 .bf16) (x6 : Vec Ideal S16x1 .f32) (fh0 : HbBuf0 (F := Ideal) c hbM0_0) (fs0 : Buf (Elt Ideal) (arg20.view.loc (c : Thread nD τ))) :
    List (View.Piece (Elt Ideal) ⟨3, ![2, 3, 16384]⟩ .f32) :=
  [piece 3 16384 2048 1 14336 (by omega) (by omega) (clsP (jobP arg4 harg4 arg6 harg6 arg8 harg8 arg10 harg10 x0 x2 x4 x6 14336#32 (winBot (bodyRun.sl.v1299 c arg20 fh0 fs0)))),
   piece 3 16384 2048 1 12288 (by omega) (by omega) (clsP (jobP arg4 harg4 arg6 harg6 arg8 harg8 arg10 harg10 x0 x2 x4 x6 12288#32 (winMid (bodyRun.sl.v1214 c arg20 fh0 fs0)))),
   piece 3 16384 2048 1 10240 (by omega) (by omega) (clsP (jobP arg4 harg4 arg6 harg6 arg8 harg8 arg10 harg10 x0 x2 x4 x6 10240#32 (winMid (bodyRun.sl.v1129 c arg20 fh0 fs0)))),
   piece 3 16384 2048 1 8192 (by omega) (by omega) (clsP (jobP arg4 harg4 arg6 harg6 arg8 harg8 arg10 harg10 x0 x2 x4 x6 8192#32 (winMid (bodyRun.sl.v1044 c arg20 fh0 fs0)))),
   piece 3 16384 2048 1 6144 (by omega) (by omega) (clsP (jobP arg4 harg4 arg6 harg6 arg8 harg8 arg10 harg10 x0 x2 x4 x6 6144#32 (winMid (bodyRun.sl.v959 c arg20 fh0 fs0)))),
   piece 3 16384 2048 1 4096 (by omega) (by omega) (clsP (jobP arg4 harg4 arg6 harg6 arg8 harg8 arg10 harg10 x0 x2 x4 x6 4096#32 (winMid (bodyRun.sl.v874 c arg20 fh0 fs0)))),
   piece 3 16384 2048 1 2048 (by omega) (by omega) (clsP (jobP arg4 harg4 arg6 harg6 arg8 harg8 arg10 harg10 x0 x2 x4 x6 2048#32 (winMid (bodyRun.sl.v789 c arg20 fh0 fs0)))),
   piece 3 16384 2048 1 0 (by omega) (by omega) (clsP (jobP arg4 harg4 arg6 harg6 arg8 harg8 arg10 harg10 x0 x2 x4 x6 0#32 (winTop (bodyRun.sl.v702 c arg20 fh0 fs0)))),
   piece 3 16384 2048 0 14336 (by omega) (by omega) (clsP (jobP arg4 harg4 arg6 harg6 arg8 harg8 arg10 harg10 x0 x2 x4 x6 14336#32 (winBot (bodyRun.sl.v615 c arg20 fh0 fs0)))),
   piece 3 16384 2048 0 12288 (by omega) (by omega) (clsP (jobP arg4 harg4 arg6 harg6 arg8 harg8 arg10 harg10 x0 x2 x4 x6 12288#32 (winMid (bodyRun.sl.v530 c arg20 fh0 fs0)))),
   piece 3 16384 2048 0 10240 (by omega) (by omega) (clsP (jobP arg4 harg4 arg6 harg6 arg8 harg8 arg10 harg10 x0 x2 x4 x6 10240#32 (winMid (bodyRun.sl.v445 c arg20 fh0 fs0)))),
   piece 3 16384 2048 0 8192 (by omega) (by omega) (clsP (jobP arg4 harg4 arg6 harg6 arg8 harg8 arg10 harg10 x0 x2 x4 x6 8192#32 (winMid (bodyRun.sl.v360 c arg20 fh0 fs0)))),
   piece 3 16384 2048 0 6144 (by omega) (by omega) (clsP (jobP arg4 harg4 arg6 harg6 arg8 harg8 arg10 harg10 x0 x2 x4 x6 6144#32 (winMid (bodyRun.sl.v275 c arg20 fh0 fs0)))),
   piece 3 16384 2048 0 4096 (by omega) (by omega) (clsP (jobP arg4 harg4 arg6 harg6 arg8 harg8 arg10 harg10 x0 x2 x4 x6 4096#32 (winMid (bodyRun.sl.v190 c arg20 fh0 fs0)))),
   piece 3 16384 2048 0 2048 (by omega) (by omega) (clsP (jobP arg4 harg4 arg6 harg6 arg8 harg8 arg10 harg10 x0 x2 x4 x6 2048#32 (winMid (bodyRun.sl.v105 c arg20 fh0 fs0)))),
   piece 3 16384 2048 0 0 (by omega) (by omega) (clsP (jobP arg4 harg4 arg6 harg6 arg8 harg8 arg10 harg10 x0 x2 x4 x6 0#32 (winTop (bodyRun.sl.v18 c arg20 fh0 fs0))))]

/-- They hold the head of their pixels. -/
theorem agree1 (c : Dev nD) (arg4 : Memref sig .tc .vmem S3x256x768 .bf16) (harg4 : arg4.IsWhole) (arg6 : Memref sig .tc .vmem S256x1 .f32) (harg6 : arg6.IsWhole) (arg8 : Memref sig .tc .vmem S16x256 .bf16) (harg8 : arg8.IsWhole) (arg10 : Memref sig .tc .vmem S16x1 .f32) (harg10 : arg10.IsWhole) (arg20 : Memref sig .tc .vmem S2x256x32x128 .f32) (x0 : Vec Ideal S3x256x768 .bf16) (x2 : Vec Ideal S256x1 .f32) (x4 : Vec Ideal S16x256 .bf16) (x6 : Vec Ideal S16x1 .f32) (fh0 : HbBuf0 (F := Ideal) c hbM0_0) (fs0 : Buf (Elt Ideal) (arg20.view.loc (c : Thread nD τ))) :
    Agree (want1 x0 x2 x4 x6 fh0) (stores1 c arg4 harg4 arg6 harg6 arg8 harg8 arg10 harg10 arg20 x0 x2 x4 x6 fh0 fs0) :=
  Agree.cons (agree_P _ _ _ _ _ _ _ _ x0 x2 x4 x6 3 0 clsP (by decide) fh0 1 14336 (by decide) (by decide) _ (win_v1299 c arg20 fh0 fs0) clsP_apply) <|
  Agree.cons (agree_P _ _ _ _ _ _ _ _ x0 x2 x4 x6 3 0 clsP (by decide) fh0 1 12288 (by decide) (by decide) _ (win_v1214 c arg20 fh0 fs0) clsP_apply) <|
  Agree.cons (agree_P _ _ _ _ _ _ _ _ x0 x2 x4 x6 3 0 clsP (by decide) fh0 1 10240 (by decide) (by decide) _ (win_v1129 c arg20 fh0 fs0) clsP_apply) <|
  Agree.cons (agree_P _ _ _ _ _ _ _ _ x0 x2 x4 x6 3 0 clsP (by decide) fh0 1 8192 (by decide) (by decide) _ (win_v1044 c arg20 fh0 fs0) clsP_apply) <|
  Agree.cons (agree_P _ _ _ _ _ _ _ _ x0 x2 x4 x6 3 0 clsP (by decide) fh0 1 6144 (by decide) (by decide) _ (win_v959 c arg20 fh0 fs0) clsP_apply) <|
  Agree.cons (agree_P _ _ _ _ _ _ _ _ x0 x2 x4 x6 3 0 clsP (by decide) fh0 1 4096 (by decide) (by decide) _ (win_v874 c arg20 fh0 fs0) clsP_apply) <|
  Agree.cons (agree_P _ _ _ _ _ _ _ _ x0 x2 x4 x6 3 0 clsP (by decide) fh0 1 2048 (by decide) (by decide) _ (win_v789 c arg20 fh0 fs0) clsP_apply) <|
  Agree.cons (agree_P _ _ _ _ _ _ _ _ x0 x2 x4 x6 3 0 clsP (by decide) fh0 1 0 (by decide) (by decide) _ (win_v702 c arg20 fh0 fs0) clsP_apply) <|
  Agree.cons (agree_P _ _ _ _ _ _ _ _ x0 x2 x4 x6 3 0 clsP (by decide) fh0 0 14336 (by decide) (by decide) _ (win_v615 c arg20 fh0 fs0) clsP_apply) <|
  Agree.cons (agree_P _ _ _ _ _ _ _ _ x0 x2 x4 x6 3 0 clsP (by decide) fh0 0 12288 (by decide) (by decide) _ (win_v530 c arg20 fh0 fs0) clsP_apply) <|
  Agree.cons (agree_P _ _ _ _ _ _ _ _ x0 x2 x4 x6 3 0 clsP (by decide) fh0 0 10240 (by decide) (by decide) _ (win_v445 c arg20 fh0 fs0) clsP_apply) <|
  Agree.cons (agree_P _ _ _ _ _ _ _ _ x0 x2 x4 x6 3 0 clsP (by decide) fh0 0 8192 (by decide) (by decide) _ (win_v360 c arg20 fh0 fs0) clsP_apply) <|
  Agree.cons (agree_P _ _ _ _ _ _ _ _ x0 x2 x4 x6 3 0 clsP (by decide) fh0 0 6144 (by decide) (by decide) _ (win_v275 c arg20 fh0 fs0) clsP_apply) <|
  Agree.cons (agree_P _ _ _ _ _ _ _ _ x0 x2 x4 x6 3 0 clsP (by decide) fh0 0 4096 (by decide) (by decide) _ (win_v190 c arg20 fh0 fs0) clsP_apply) <|
  Agree.cons (agree_P _ _ _ _ _ _ _ _ x0 x2 x4 x6 3 0 clsP (by decide) fh0 0 2048 (by decide) (by decide) _ (win_v105 c arg20 fh0 fs0) clsP_apply) <|
  Agree.cons (agree_P _ _ _ _ _ _ _ _ x0 x2 x4 x6 3 0 clsP (by decide) fh0 0 0 (by decide) (by decide) _ (win_v18 c arg20 fh0 fs0) clsP_apply) <| Agree.nil

/-- The stores of output 2, job by job, newest first. -/
def stores2 (c : Dev nD) (arg4 : Memref sig .tc .vmem S3x256x768 .bf16) (harg4 : arg4.IsWhole) (arg6 : Memref sig .tc .vmem S256x1 .f32) (harg6 : arg6.IsWhole) (arg8 : Memref sig .tc .vmem S16x256 .bf16) (harg8 : arg8.IsWhole) (arg10 : Memref sig .tc .vmem S16x1 .f32) (harg10 : arg10.IsWhole) (arg20 : Memref sig .tc .vmem S2x256x32x128 .f32) (x0 : Vec Ideal S3x256x768 .bf16) (x2 : Vec Ideal S256x1 .f32) (x4 : Vec Ideal S16x256 .bf16) (x6 : Vec Ideal S16x1 .f32) (fh0 : HbBuf0 (F := Ideal) c hbM0_0) (fs0 : Buf (Elt Ideal) (arg20.view.loc (c : Thread nD τ))) :
    List (View.Piece (Elt Ideal) ⟨3, ![2, 12, 16384]⟩ .f32) :=
  [piece 12 16384 2048 1 14336 (by omega) (by omega) (boxP (jobP arg4 harg4 arg6 harg6 arg8 harg8 arg10 harg10 x0 x2 x4 x6 14336#32 (winBot (bodyRun.sl.v1299 c arg20 fh0 fs0)))),
   piece 12 16384 2048 1 12288 (by omega) (by omega) (boxP (jobP arg4 harg4 arg6 harg6 arg8 harg8 arg10 harg10 x0 x2 x4 x6 12288#32 (winMid (bodyRun.sl.v1214 c arg20 fh0 fs0)))),
   piece 12 16384 2048 1 10240 (by omega) (by omega) (boxP (jobP arg4 harg4 arg6 harg6 arg8 harg8 arg10 harg10 x0 x2 x4 x6 10240#32 (winMid (bodyRun.sl.v1129 c arg20 fh0 fs0)))),
   piece 12 16384 2048 1 8192 (by omega) (by omega) (boxP (jobP arg4 harg4 arg6 harg6 arg8 harg8 arg10 harg10 x0 x2 x4 x6 8192#32 (winMid (bodyRun.sl.v1044 c arg20 fh0 fs0)))),
   piece 12 16384 2048 1 6144 (by omega) (by omega) (boxP (jobP arg4 harg4 arg6 harg6 arg8 harg8 arg10 harg10 x0 x2 x4 x6 6144#32 (winMid (bodyRun.sl.v959 c arg20 fh0 fs0)))),
   piece 12 16384 2048 1 4096 (by omega) (by omega) (boxP (jobP arg4 harg4 arg6 harg6 arg8 harg8 arg10 harg10 x0 x2 x4 x6 4096#32 (winMid (bodyRun.sl.v874 c arg20 fh0 fs0)))),
   piece 12 16384 2048 1 2048 (by omega) (by omega) (boxP (jobP arg4 harg4 arg6 harg6 arg8 harg8 arg10 harg10 x0 x2 x4 x6 2048#32 (winMid (bodyRun.sl.v789 c arg20 fh0 fs0)))),
   piece 12 16384 2048 1 0 (by omega) (by omega) (boxP (jobP arg4 harg4 arg6 harg6 arg8 harg8 arg10 harg10 x0 x2 x4 x6 0#32 (winTop (bodyRun.sl.v702 c arg20 fh0 fs0)))),
   piece 12 16384 2048 0 14336 (by omega) (by omega) (boxP (jobP arg4 harg4 arg6 harg6 arg8 harg8 arg10 harg10 x0 x2 x4 x6 14336#32 (winBot (bodyRun.sl.v615 c arg20 fh0 fs0)))),
   piece 12 16384 2048 0 12288 (by omega) (by omega) (boxP (jobP arg4 harg4 arg6 harg6 arg8 harg8 arg10 harg10 x0 x2 x4 x6 12288#32 (winMid (bodyRun.sl.v530 c arg20 fh0 fs0)))),
   piece 12 16384 2048 0 10240 (by omega) (by omega) (boxP (jobP arg4 harg4 arg6 harg6 arg8 harg8 arg10 harg10 x0 x2 x4 x6 10240#32 (winMid (bodyRun.sl.v445 c arg20 fh0 fs0)))),
   piece 12 16384 2048 0 8192 (by omega) (by omega) (boxP (jobP arg4 harg4 arg6 harg6 arg8 harg8 arg10 harg10 x0 x2 x4 x6 8192#32 (winMid (bodyRun.sl.v360 c arg20 fh0 fs0)))),
   piece 12 16384 2048 0 6144 (by omega) (by omega) (boxP (jobP arg4 harg4 arg6 harg6 arg8 harg8 arg10 harg10 x0 x2 x4 x6 6144#32 (winMid (bodyRun.sl.v275 c arg20 fh0 fs0)))),
   piece 12 16384 2048 0 4096 (by omega) (by omega) (boxP (jobP arg4 harg4 arg6 harg6 arg8 harg8 arg10 harg10 x0 x2 x4 x6 4096#32 (winMid (bodyRun.sl.v190 c arg20 fh0 fs0)))),
   piece 12 16384 2048 0 2048 (by omega) (by omega) (boxP (jobP arg4 harg4 arg6 harg6 arg8 harg8 arg10 harg10 x0 x2 x4 x6 2048#32 (winMid (bodyRun.sl.v105 c arg20 fh0 fs0)))),
   piece 12 16384 2048 0 0 (by omega) (by omega) (boxP (jobP arg4 harg4 arg6 harg6 arg8 harg8 arg10 harg10 x0 x2 x4 x6 0#32 (winTop (bodyRun.sl.v18 c arg20 fh0 fs0))))]

/-- They hold the head of their pixels. -/
theorem agree2 (c : Dev nD) (arg4 : Memref sig .tc .vmem S3x256x768 .bf16) (harg4 : arg4.IsWhole) (arg6 : Memref sig .tc .vmem S256x1 .f32) (harg6 : arg6.IsWhole) (arg8 : Memref sig .tc .vmem S16x256 .bf16) (harg8 : arg8.IsWhole) (arg10 : Memref sig .tc .vmem S16x1 .f32) (harg10 : arg10.IsWhole) (arg20 : Memref sig .tc .vmem S2x256x32x128 .f32) (x0 : Vec Ideal S3x256x768 .bf16) (x2 : Vec Ideal S256x1 .f32) (x4 : Vec Ideal S16x256 .bf16) (x6 : Vec Ideal S16x1 .f32) (fh0 : HbBuf0 (F := Ideal) c hbM0_0) (fs0 : Buf (Elt Ideal) (arg20.view.loc (c : Thread nD τ))) :
    Agree (want2 x0 x2 x4 x6 fh0) (stores2 c arg4 harg4 arg6 harg6 arg8 harg8 arg10 harg10 arg20 x0 x2 x4 x6 fh0 fs0) :=
  Agree.cons (agree_P _ _ _ _ _ _ _ _ x0 x2 x4 x6 12 3 boxP (by decide) fh0 1 14336 (by decide) (by decide) _ (win_v1299 c arg20 fh0 fs0) boxP_apply) <|
  Agree.cons (agree_P _ _ _ _ _ _ _ _ x0 x2 x4 x6 12 3 boxP (by decide) fh0 1 12288 (by decide) (by decide) _ (win_v1214 c arg20 fh0 fs0) boxP_apply) <|
  Agree.cons (agree_P _ _ _ _ _ _ _ _ x0 x2 x4 x6 12 3 boxP (by decide) fh0 1 10240 (by decide) (by decide) _ (win_v1129 c arg20 fh0 fs0) boxP_apply) <|
  Agree.cons (agree_P _ _ _ _ _ _ _ _ x0 x2 x4 x6 12 3 boxP (by decide) fh0 1 8192 (by decide) (by decide) _ (win_v1044 c arg20 fh0 fs0) boxP_apply) <|
  Agree.cons (agree_P _ _ _ _ _ _ _ _ x0 x2 x4 x6 12 3 boxP (by decide) fh0 1 6144 (by decide) (by decide) _ (win_v959 c arg20 fh0 fs0) boxP_apply) <|
  Agree.cons (agree_P _ _ _ _ _ _ _ _ x0 x2 x4 x6 12 3 boxP (by decide) fh0 1 4096 (by decide) (by decide) _ (win_v874 c arg20 fh0 fs0) boxP_apply) <|
  Agree.cons (agree_P _ _ _ _ _ _ _ _ x0 x2 x4 x6 12 3 boxP (by decide) fh0 1 2048 (by decide) (by decide) _ (win_v789 c arg20 fh0 fs0) boxP_apply) <|
  Agree.cons (agree_P _ _ _ _ _ _ _ _ x0 x2 x4 x6 12 3 boxP (by decide) fh0 1 0 (by decide) (by decide) _ (win_v702 c arg20 fh0 fs0) boxP_apply) <|
  Agree.cons (agree_P _ _ _ _ _ _ _ _ x0 x2 x4 x6 12 3 boxP (by decide) fh0 0 14336 (by decide) (by decide) _ (win_v615 c arg20 fh0 fs0) boxP_apply) <|
  Agree.cons (agree_P _ _ _ _ _ _ _ _ x0 x2 x4 x6 12 3 boxP (by decide) fh0 0 12288 (by decide) (by decide) _ (win_v530 c arg20 fh0 fs0) boxP_apply) <|
  Agree.cons (agree_P _ _ _ _ _ _ _ _ x0 x2 x4 x6 12 3 boxP (by decide) fh0 0 10240 (by decide) (by decide) _ (win_v445 c arg20 fh0 fs0) boxP_apply) <|
  Agree.cons (agree_P _ _ _ _ _ _ _ _ x0 x2 x4 x6 12 3 boxP (by decide) fh0 0 8192 (by decide) (by decide) _ (win_v360 c arg20 fh0 fs0) boxP_apply) <|
  Agree.cons (agree_P _ _ _ _ _ _ _ _ x0 x2 x4 x6 12 3 boxP (by decide) fh0 0 6144 (by decide) (by decide) _ (win_v275 c arg20 fh0 fs0) boxP_apply) <|
  Agree.cons (agree_P _ _ _ _ _ _ _ _ x0 x2 x4 x6 12 3 boxP (by decide) fh0 0 4096 (by decide) (by decide) _ (win_v190 c arg20 fh0 fs0) boxP_apply) <|
  Agree.cons (agree_P _ _ _ _ _ _ _ _ x0 x2 x4 x6 12 3 boxP (by decide) fh0 0 2048 (by decide) (by decide) _ (win_v105 c arg20 fh0 fs0) boxP_apply) <|
  Agree.cons (agree_P _ _ _ _ _ _ _ _ x0 x2 x4 x6 12 3 boxP (by decide) fh0 0 0 (by decide) (by decide) _ (win_v18 c arg20 fh0 fs0) boxP_apply) <| Agree.nil

/-- The stores of output 3, job by job, newest first. -/
def stores3 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg21 : Memref sig .tc .vmem S2x2192x256 .f32) (x1 : Vec Ideal S3x768x256 .bf16) (x3 : Vec Ideal S1x256 .f32) (x5 : Vec Ideal S256x16 .bf16) (x7 : Vec Ideal S1x16 .f32) (fh1 : HbBuf0 (F := Ideal) c hbM0_1) (fs1 : Buf (Elt Ideal) (arg21.view.loc (c : Thread nD τ))) :
    List (View.Piece (Elt Ideal) ⟨3, ![2, 3, 4096]⟩ .f32) :=
  [piece 3 4096 2048 1 2048 (by omega) (by omega) (clsP (jobF arg5 harg5 arg7 harg7 arg9 harg9 arg11 harg11 x1 x3 x5 x7 fits1 63#32 2048#32 (bodyRun.sl.v1630 c arg21 fh1 fs1) (bodyRun.sl.v1632 c arg21 fh1 fs1) (bodyRun.sl.v1634 c arg21 fh1 fs1))),
   piece 3 4096 2048 1 0 (by omega) (by omega) (clsP (jobF arg5 harg5 arg7 harg7 arg9 harg9 arg11 harg11 x1 x3 x5 x7 fits1 63#32 0#32 (bodyRun.sl.v1550 c arg21 fh1 fs1) (bodyRun.sl.v1552 c arg21 fh1 fs1) (bodyRun.sl.v1554 c arg21 fh1 fs1))),
   piece 3 4096 2048 0 2048 (by omega) (by omega) (clsP (jobF arg5 harg5 arg7 harg7 arg9 harg9 arg11 harg11 x1 x3 x5 x7 fits1 63#32 2048#32 (bodyRun.sl.v1470 c arg21 fh1 fs1) (bodyRun.sl.v1472 c arg21 fh1 fs1) (bodyRun.sl.v1474 c arg21 fh1 fs1))),
   piece 3 4096 2048 0 0 (by omega) (by omega) (clsP (jobF arg5 harg5 arg7 harg7 arg9 harg9 arg11 harg11 x1 x3 x5 x7 fits1 63#32 0#32 (bodyRun.sl.v1390 c arg21 fh1 fs1) (bodyRun.sl.v1392 c arg21 fh1 fs1) (bodyRun.sl.v1394 c arg21 fh1 fs1)))]

/-- They hold the head of their pixels. -/
theorem agree3 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg21 : Memref sig .tc .vmem S2x2192x256 .f32) (x1 : Vec Ideal S3x768x256 .bf16) (x3 : Vec Ideal S1x256 .f32) (x5 : Vec Ideal S256x16 .bf16) (x7 : Vec Ideal S1x16 .f32) (fh1 : HbBuf0 (F := Ideal) c hbM0_1) (fs1 : Buf (Elt Ideal) (arg21.view.loc (c : Thread nD τ))) :
    Agree (want3 x1 x3 x5 x7 fh1) (stores3 c arg5 harg5 arg7 harg7 arg9 harg9 arg11 harg11 arg21 x1 x3 x5 x7 fh1 fs1) :=
  Agree.cons (agree_F _ _ _ _ _ _ _ _ x1 x3 x5 x7 6 (by decide) (by decide) fits1 (by decide) rfl 3 0 clsP (by decide) fh1 1 2048 (by decide) (by decide) (by decide) _ _ _ (rows_v1630 c arg21 fh1 fs1) (rows_v1632 c arg21 fh1 fs1) (rows_v1634 c arg21 fh1 fs1) clsP_apply) <|
  Agree.cons (agree_F _ _ _ _ _ _ _ _ x1 x3 x5 x7 6 (by decide) (by decide) fits1 (by decide) rfl 3 0 clsP (by decide) fh1 1 0 (by decide) (by decide) (by decide) _ _ _ (rows_v1550 c arg21 fh1 fs1) (rows_v1552 c arg21 fh1 fs1) (rows_v1554 c arg21 fh1 fs1) clsP_apply) <|
  Agree.cons (agree_F _ _ _ _ _ _ _ _ x1 x3 x5 x7 6 (by decide) (by decide) fits1 (by decide) rfl 3 0 clsP (by decide) fh1 0 2048 (by decide) (by decide) (by decide) _ _ _ (rows_v1470 c arg21 fh1 fs1) (rows_v1472 c arg21 fh1 fs1) (rows_v1474 c arg21 fh1 fs1) clsP_apply) <|
  Agree.cons (agree_F _ _ _ _ _ _ _ _ x1 x3 x5 x7 6 (by decide) (by decide) fits1 (by decide) rfl 3 0 clsP (by decide) fh1 0 0 (by decide) (by decide) (by decide) _ _ _ (rows_v1390 c arg21 fh1 fs1) (rows_v1392 c arg21 fh1 fs1) (rows_v1394 c arg21 fh1 fs1) clsP_apply) <| Agree.nil

/-- The stores of output 4, job by job, newest first. -/
def stores4 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg21 : Memref sig .tc .vmem S2x2192x256 .f32) (x1 : Vec Ideal S3x768x256 .bf16) (x3 : Vec Ideal S1x256 .f32) (x5 : Vec Ideal S256x16 .bf16) (x7 : Vec Ideal S1x16 .f32) (fh1 : HbBuf0 (F := Ideal) c hbM0_1) (fs1 : Buf (Elt Ideal) (arg21.view.loc (c : Thread nD τ))) :
    List (View.Piece (Elt Ideal) ⟨3, ![2, 12, 4096]⟩ .f32) :=
  [piece 12 4096 2048 1 2048 (by omega) (by omega) (boxP (jobF arg5 harg5 arg7 harg7 arg9 harg9 arg11 harg11 x1 x3 x5 x7 fits1 63#32 2048#32 (bodyRun.sl.v1630 c arg21 fh1 fs1) (bodyRun.sl.v1632 c arg21 fh1 fs1) (bodyRun.sl.v1634 c arg21 fh1 fs1))),
   piece 12 4096 2048 1 0 (by omega) (by omega) (boxP (jobF arg5 harg5 arg7 harg7 arg9 harg9 arg11 harg11 x1 x3 x5 x7 fits1 63#32 0#32 (bodyRun.sl.v1550 c arg21 fh1 fs1) (bodyRun.sl.v1552 c arg21 fh1 fs1) (bodyRun.sl.v1554 c arg21 fh1 fs1))),
   piece 12 4096 2048 0 2048 (by omega) (by omega) (boxP (jobF arg5 harg5 arg7 harg7 arg9 harg9 arg11 harg11 x1 x3 x5 x7 fits1 63#32 2048#32 (bodyRun.sl.v1470 c arg21 fh1 fs1) (bodyRun.sl.v1472 c arg21 fh1 fs1) (bodyRun.sl.v1474 c arg21 fh1 fs1))),
   piece 12 4096 2048 0 0 (by omega) (by omega) (boxP (jobF arg5 harg5 arg7 harg7 arg9 harg9 arg11 harg11 x1 x3 x5 x7 fits1 63#32 0#32 (bodyRun.sl.v1390 c arg21 fh1 fs1) (bodyRun.sl.v1392 c arg21 fh1 fs1) (bodyRun.sl.v1394 c arg21 fh1 fs1)))]

/-- They hold the head of their pixels. -/
theorem agree4 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg21 : Memref sig .tc .vmem S2x2192x256 .f32) (x1 : Vec Ideal S3x768x256 .bf16) (x3 : Vec Ideal S1x256 .f32) (x5 : Vec Ideal S256x16 .bf16) (x7 : Vec Ideal S1x16 .f32) (fh1 : HbBuf0 (F := Ideal) c hbM0_1) (fs1 : Buf (Elt Ideal) (arg21.view.loc (c : Thread nD τ))) :
    Agree (want4 x1 x3 x5 x7 fh1) (stores4 c arg5 harg5 arg7 harg7 arg9 harg9 arg11 harg11 arg21 x1 x3 x5 x7 fh1 fs1) :=
  Agree.cons (agree_F _ _ _ _ _ _ _ _ x1 x3 x5 x7 6 (by decide) (by decide) fits1 (by decide) rfl 12 3 boxP (by decide) fh1 1 2048 (by decide) (by decide) (by decide) _ _ _ (rows_v1630 c arg21 fh1 fs1) (rows_v1632 c arg21 fh1 fs1) (rows_v1634 c arg21 fh1 fs1) boxP_apply) <|
  Agree.cons (agree_F _ _ _ _ _ _ _ _ x1 x3 x5 x7 6 (by decide) (by decide) fits1 (by decide) rfl 12 3 boxP (by decide) fh1 1 0 (by decide) (by decide) (by decide) _ _ _ (rows_v1550 c arg21 fh1 fs1) (rows_v1552 c arg21 fh1 fs1) (rows_v1554 c arg21 fh1 fs1) boxP_apply) <|
  Agree.cons (agree_F _ _ _ _ _ _ _ _ x1 x3 x5 x7 6 (by decide) (by decide) fits1 (by decide) rfl 12 3 boxP (by decide) fh1 0 2048 (by decide) (by decide) (by decide) _ _ _ (rows_v1470 c arg21 fh1 fs1) (rows_v1472 c arg21 fh1 fs1) (rows_v1474 c arg21 fh1 fs1) boxP_apply) <|
  Agree.cons (agree_F _ _ _ _ _ _ _ _ x1 x3 x5 x7 6 (by decide) (by decide) fits1 (by decide) rfl 12 3 boxP (by decide) fh1 0 0 (by decide) (by decide) (by decide) _ _ _ (rows_v1390 c arg21 fh1 fs1) (rows_v1392 c arg21 fh1 fs1) (rows_v1394 c arg21 fh1 fs1) boxP_apply) <| Agree.nil

/-- The stores of output 5, job by job, newest first. -/
def stores5 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg22 : Memref sig .tc .vmem S2x1104x256 .f32) (x1 : Vec Ideal S3x768x256 .bf16) (x3 : Vec Ideal S1x256 .f32) (x5 : Vec Ideal S256x16 .bf16) (x7 : Vec Ideal S1x16 .f32) (fh2 : HbBuf0 (F := Ideal) c hbM0_2) (fs2 : Buf (Elt Ideal) (arg22.view.loc (c : Thread nD τ))) :
    List (View.Piece (Elt Ideal) ⟨3, ![2, 3, 1024]⟩ .f32) :=
  [piece 3 1024 1024 1 0 (by omega) (by omega) (cls2 (jobF arg5 harg5 arg7 harg7 arg9 harg9 arg11 harg11 x1 x3 x5 x7 fits2 31#32 0#32 (bodyRun.sl.v1798 c arg22 fh2 fs2) (bodyRun.sl.v1800 c arg22 fh2 fs2) (bodyRun.sl.v1802 c arg22 fh2 fs2))),
   piece 3 1024 1024 0 0 (by omega) (by omega) (cls2 (jobF arg5 harg5 arg7 harg7 arg9 harg9 arg11 harg11 x1 x3 x5 x7 fits2 31#32 0#32 (bodyRun.sl.v c arg22 fh2 fs2) (bodyRun.sl.v1716 c arg22 fh2 fs2) (bodyRun.sl.v1718 c arg22 fh2 fs2)))]

/-- They hold the head of their pixels. -/
theorem agree5 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg22 : Memref sig .tc .vmem S2x1104x256 .f32) (x1 : Vec Ideal S3x768x256 .bf16) (x3 : Vec Ideal S1x256 .f32) (x5 : Vec Ideal S256x16 .bf16) (x7 : Vec Ideal S1x16 .f32) (fh2 : HbBuf0 (F := Ideal) c hbM0_2) (fs2 : Buf (Elt Ideal) (arg22.view.loc (c : Thread nD τ))) :
    Agree (want5 x1 x3 x5 x7 fh2) (stores5 c arg5 harg5 arg7 harg7 arg9 harg9 arg11 harg11 arg22 x1 x3 x5 x7 fh2 fs2) :=
  Agree.cons (agree_F _ _ _ _ _ _ _ _ x1 x3 x5 x7 5 (by decide) (by decide) fits2 (by decide) rfl 3 0 cls2 (by decide) fh2 1 0 (by decide) (by decide) (by decide) _ _ _ (rows_v1798 c arg22 fh2 fs2) (rows_v1800 c arg22 fh2 fs2) (rows_v1802 c arg22 fh2 fs2) cls2_apply) <|
  Agree.cons (agree_F _ _ _ _ _ _ _ _ x1 x3 x5 x7 5 (by decide) (by decide) fits2 (by decide) rfl 3 0 cls2 (by decide) fh2 0 0 (by decide) (by decide) (by decide) _ _ _ (rows_v1714 c arg22 fh2 fs2) (rows_v1716 c arg22 fh2 fs2) (rows_v1718 c arg22 fh2 fs2) cls2_apply) <| Agree.nil

/-- The stores of output 6, job by job, newest first. -/
def stores6 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg22 : Memref sig .tc .vmem S2x1104x256 .f32) (x1 : Vec Ideal S3x768x256 .bf16) (x3 : Vec Ideal S1x256 .f32) (x5 : Vec Ideal S256x16 .bf16) (x7 : Vec Ideal S1x16 .f32) (fh2 : HbBuf0 (F := Ideal) c hbM0_2) (fs2 : Buf (Elt Ideal) (arg22.view.loc (c : Thread nD τ))) :
    List (View.Piece (Elt Ideal) ⟨3, ![2, 12, 1024]⟩ .f32) :=
  [piece 12 1024 1024 1 0 (by omega) (by omega) (box2 (jobF arg5 harg5 arg7 harg7 arg9 harg9 arg11 harg11 x1 x3 x5 x7 fits2 31#32 0#32 (bodyRun.sl.v1798 c arg22 fh2 fs2) (bodyRun.sl.v1800 c arg22 fh2 fs2) (bodyRun.sl.v1802 c arg22 fh2 fs2))),
   piece 12 1024 1024 0 0 (by omega) (by omega) (box2 (jobF arg5 harg5 arg7 harg7 arg9 harg9 arg11 harg11 x1 x3 x5 x7 fits2 31#32 0#32 (bodyRun.sl.v c arg22 fh2 fs2) (bodyRun.sl.v1716 c arg22 fh2 fs2) (bodyRun.sl.v1718 c arg22 fh2 fs2)))]

/-- They hold the head of their pixels. -/
theorem agree6 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg22 : Memref sig .tc .vmem S2x1104x256 .f32) (x1 : Vec Ideal S3x768x256 .bf16) (x3 : Vec Ideal S1x256 .f32) (x5 : Vec Ideal S256x16 .bf16) (x7 : Vec Ideal S1x16 .f32) (fh2 : HbBuf0 (F := Ideal) c hbM0_2) (fs2 : Buf (Elt Ideal) (arg22.view.loc (c : Thread nD τ))) :
    Agree (want6 x1 x3 x5 x7 fh2) (stores6 c arg5 harg5 arg7 harg7 arg9 harg9 arg11 harg11 arg22 x1 x3 x5 x7 fh2 fs2) :=
  Agree.cons (agree_F _ _ _ _ _ _ _ _ x1 x3 x5 x7 5 (by decide) (by decide) fits2 (by decide) rfl 12 3 box2 (by decide) fh2 1 0 (by decide) (by decide) (by decide) _ _ _ (rows_v1798 c arg22 fh2 fs2) (rows_v1800 c arg22 fh2 fs2) (rows_v1802 c arg22 fh2 fs2) box2_apply) <|
  Agree.cons (agree_F _ _ _ _ _ _ _ _ x1 x3 x5 x7 5 (by decide) (by decide) fits2 (by decide) rfl 12 3 box2 (by decide) fh2 0 0 (by decide) (by decide) (by decide) _ _ _ (rows_v1714 c arg22 fh2 fs2) (rows_v1716 c arg22 fh2 fs2) (rows_v1718 c arg22 fh2 fs2) box2_apply) <| Agree.nil

/-- The stores of output 7, job by job, newest first. -/
def stores7 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg23 : Memref sig .tc .vmem S2x304x256 .f32) (x1 : Vec Ideal S3x768x256 .bf16) (x3 : Vec Ideal S1x256 .f32) (x5 : Vec Ideal S256x16 .bf16) (x7 : Vec Ideal S1x16 .f32) (fh3 : HbBuf0 (F := Ideal) c hbM0_3) (fs3 : Buf (Elt Ideal) (arg23.view.loc (c : Thread nD τ))) :
    List (View.Piece (Elt Ideal) ⟨3, ![2, 3, 256]⟩ .f32) :=
  [piece 3 256 256 1 0 (by omega) (by omega) (cls3 (jobF arg5 harg5 arg7 harg7 arg9 harg9 arg11 harg11 x1 x3 x5 x7 fits3 15#32 0#32 (bodyRun.sl.v1960 c arg23 fh3 fs3) (bodyRun.sl.v1962 c arg23 fh3 fs3) (bodyRun.sl.v1964 c arg23 fh3 fs3))),
   piece 3 256 256 0 0 (by omega) (by omega) (cls3 (jobF arg5 harg5 arg7 harg7 arg9 harg9 arg11 harg11 x1 x3 x5 x7 fits3 15#32 0#32 (bodyRun.sl.v1882 c arg23 fh3 fs3) (bodyRun.sl.v1884 c arg23 fh3 fs3) (bodyRun.sl.v1886 c arg23 fh3 fs3)))]

/-- They hold the head of their pixels. -/
theorem agree7 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg23 : Memref sig .tc .vmem S2x304x256 .f32) (x1 : Vec Ideal S3x768x256 .bf16) (x3 : Vec Ideal S1x256 .f32) (x5 : Vec Ideal S256x16 .bf16) (x7 : Vec Ideal S1x16 .f32) (fh3 : HbBuf0 (F := Ideal) c hbM0_3) (fs3 : Buf (Elt Ideal) (arg23.view.loc (c : Thread nD τ))) :
    Agree (want7 x1 x3 x5 x7 fh3) (stores7 c arg5 harg5 arg7 harg7 arg9 harg9 arg11 harg11 arg23 x1 x3 x5 x7 fh3 fs3) :=
  Agree.cons (agree_F _ _ _ _ _ _ _ _ x1 x3 x5 x7 4 (by decide) (by decide) fits3 (by decide) rfl 3 0 cls3 (by decide) fh3 1 0 (by decide) (by decide) (by decide) _ _ _ (rows_v1960 c arg23 fh3 fs3) (rows_v1962 c arg23 fh3 fs3) (rows_v1964 c arg23 fh3 fs3) cls3_apply) <|
  Agree.cons (agree_F _ _ _ _ _ _ _ _ x1 x3 x5 x7 4 (by decide) (by decide) fits3 (by decide) rfl 3 0 cls3 (by decide) fh3 0 0 (by decide) (by decide) (by decide) _ _ _ (rows_v1882 c arg23 fh3 fs3) (rows_v1884 c arg23 fh3 fs3) (rows_v1886 c arg23 fh3 fs3) cls3_apply) <| Agree.nil

/-- The stores of output 8, job by job, newest first. -/
def stores8 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg23 : Memref sig .tc .vmem S2x304x256 .f32) (x1 : Vec Ideal S3x768x256 .bf16) (x3 : Vec Ideal S1x256 .f32) (x5 : Vec Ideal S256x16 .bf16) (x7 : Vec Ideal S1x16 .f32) (fh3 : HbBuf0 (F := Ideal) c hbM0_3) (fs3 : Buf (Elt Ideal) (arg23.view.loc (c : Thread nD τ))) :
    List (View.Piece (Elt Ideal) ⟨3, ![2, 12, 256]⟩ .f32) :=
  [piece 12 256 256 1 0 (by omega) (by omega) (box3 (jobF arg5 harg5 arg7 harg7 arg9 harg9 arg11 harg11 x1 x3 x5 x7 fits3 15#32 0#32 (bodyRun.sl.v1960 c arg23 fh3 fs3) (bodyRun.sl.v1962 c arg23 fh3 fs3) (bodyRun.sl.v1964 c arg23 fh3 fs3))),
   piece 12 256 256 0 0 (by omega) (by omega) (box3 (jobF arg5 harg5 arg7 harg7 arg9 harg9 arg11 harg11 x1 x3 x5 x7 fits3 15#32 0#32 (bodyRun.sl.v1882 c arg23 fh3 fs3) (bodyRun.sl.v1884 c arg23 fh3 fs3) (bodyRun.sl.v1886 c arg23 fh3 fs3)))]

/-- They hold the head of their pixels. -/
theorem agree8 (c : Dev nD) (arg5 : Memref sig .tc .vmem S3x768x256 .bf16) (harg5 : arg5.IsWhole) (arg7 : Memref sig .tc .vmem S1x256 .f32) (harg7 : arg7.IsWhole) (arg9 : Memref sig .tc .vmem S256x16 .bf16) (harg9 : arg9.IsWhole) (arg11 : Memref sig .tc .vmem S1x16 .f32) (harg11 : arg11.IsWhole) (arg23 : Memref sig .tc .vmem S2x304x256 .f32) (x1 : Vec Ideal S3x768x256 .bf16) (x3 : Vec Ideal S1x256 .f32) (x5 : Vec Ideal S256x16 .bf16) (x7 : Vec Ideal S1x16 .f32) (fh3 : HbBuf0 (F := Ideal) c hbM0_3) (fs3 : Buf (Elt Ideal) (arg23.view.loc (c : Thread nD τ))) :
    Agree (want8 x1 x3 x5 x7 fh3) (stores8 c arg5 harg5 arg7 harg7 arg9 harg9 arg11 harg11 arg23 x1 x3 x5 x7 fh3 fs3) :=
  Agree.cons (agree_F _ _ _ _ _ _ _ _ x1 x3 x5 x7 4 (by decide) (by decide) fits3 (by decide) rfl 12 3 box3 (by decide) fh3 1 0 (by decide) (by decide) (by decide) _ _ _ (rows_v1960 c arg23 fh3 fs3) (rows_v1962 c arg23 fh3 fs3) (rows_v1964 c arg23 fh3 fs3) box3_apply) <|
  Agree.cons (agree_F _ _ _ _ _ _ _ _ x1 x3 x5 x7 4 (by decide) (by decide) fits3 (by decide) rfl 12 3 box3 (by decide) fh3 0 0 (by decide) (by decide) (by decide) _ _ _ (rows_v1882 c arg23 fh3 fs3) (rows_v1884 c arg23 fh3 fs3) (rows_v1886 c arg23 fh3 fs3) box3_apply) <| Agree.nil

variable (c : Dev nD) (arg4 : Memref sig .tc .vmem S3x256x768 .bf16) (harg4 : arg4.IsWhole) (arg5 : Memref sig .tc .vmem S3x768x256 .bf16) (harg5 : arg5.IsWhole) (arg6 : Memref sig .tc .vmem S256x1 .f32) (harg6 : arg6.IsWhole) (arg7 : Memref sig .tc .vmem S1x256 .f32) (harg7 : arg7.IsWhole) (arg8 : Memref sig .tc .vmem S16x256 .bf16) (harg8 : arg8.IsWhole) (arg9 : Memref sig .tc .vmem S256x16 .bf16) (harg9 : arg9.IsWhole) (arg10 : Memref sig .tc .vmem S16x1 .f32) (harg10 : arg10.IsWhole) (arg11 : Memref sig .tc .vmem S1x16 .f32) (harg11 : arg11.IsWhole) (arg12 : Memref sig .tc .vmem S2x3x16384 .f32) (harg12 : arg12.IsWhole) (arg13 : Memref sig .tc .vmem S2x12x16384 .f32) (harg13 : arg13.IsWhole) (arg14 : Memref sig .tc .vmem S2x3x4096 .f32) (harg14 : arg14.IsWhole) (arg15 : Memref sig .tc .vmem S2x12x4096 .f32) (harg15 : arg15.IsWhole) (arg16 : Memref sig .tc .vmem S2x3x1024 .f32) (harg16 : arg16.IsWhole) (arg17 : Memref sig .tc .vmem S2x12x1024 .f32) (harg17 : arg17.IsWhole) (arg18 : Memref sig .tc .vmem S2x3x256 .f32) (harg18 : arg18.IsWhole) (arg19 : Memref sig .tc .vmem S2x12x256 .f32) (harg19 : arg19.IsWhole) (arg20 : Memref sig .tc .vmem S2x256x32x128 .f32) (harg20 : arg20.IsWhole) (arg21 : Memref sig .tc .vmem S2x2192x256 .f32) (harg21 : arg21.IsWhole) (arg22 : Memref sig .tc .vmem S2x1104x256 .f32) (harg22 : arg22.IsWhole) (arg23 : Memref sig .tc .vmem S2x304x256 .f32) (harg23 : arg23.IsWhole)
    (x0 : Vec Ideal S3x256x768 .bf16) (x1 : Vec Ideal S3x768x256 .bf16) (x2 : Vec Ideal S256x1 .f32) (x3 : Vec Ideal S1x256 .f32) (x4 : Vec Ideal S16x256 .bf16) (x5 : Vec Ideal S256x16 .bf16) (x6 : Vec Ideal S16x1 .f32) (x7 : Vec Ideal S1x16 .f32) (fh0 : HbBuf0 (F := Ideal) c hbM0_0) (fh1 : HbBuf0 (F := Ideal) c hbM0_1) (fh2 : HbBuf0 (F := Ideal) c hbM0_2) (fh3 : HbBuf0 (F := Ideal) c hbM0_3) (fs0 : Buf (Elt Ideal) (arg20.view.loc (c : Thread nD τ))) (fs1 : Buf (Elt Ideal) (arg21.view.loc (c : Thread nD τ))) (fs2 : Buf (Elt Ideal) (arg22.view.loc (c : Thread nD τ))) (fs3 : Buf (Elt Ideal) (arg23.view.loc (c : Thread nD τ)))

/-- The run's stores of output 1. -/
theorem list1 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).1
    = stores1 c arg4 harg4 arg6 harg6 arg8 harg8 arg10 harg10 arg20 x0 x2 x4 x6 fh0 fs0 := rfl

/-- Output 1 after the kernel's stores, whatever was there before. -/
theorem reads1 (v : View sig .tc .vmem S2x3x16384 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).1)
      = want1 x0 x2 x4 x6 fh0 := by
  rw [list1]
  refine reads_of_agree v f (agree1 c arg4 harg4 arg6 harg6 arg8 harg8 arg10 harg10 arg20 x0 x2 x4 x6 fh0 fs0) fun a r p => ?_
  unfold stores1
  simp only [List.exists_mem_cons_iff, mem_piece]
  have := a.isLt
  have := p.isLt
  omega

/-- The run's stores of output 2. -/
theorem list2 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.1
    = stores2 c arg4 harg4 arg6 harg6 arg8 harg8 arg10 harg10 arg20 x0 x2 x4 x6 fh0 fs0 := rfl

/-- Output 2 after the kernel's stores, whatever was there before. -/
theorem reads2 (v : View sig .tc .vmem S2x12x16384 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.1)
      = want2 x0 x2 x4 x6 fh0 := by
  rw [list2]
  refine reads_of_agree v f (agree2 c arg4 harg4 arg6 harg6 arg8 harg8 arg10 harg10 arg20 x0 x2 x4 x6 fh0 fs0) fun a r p => ?_
  unfold stores2
  simp only [List.exists_mem_cons_iff, mem_piece]
  have := a.isLt
  have := p.isLt
  omega

/-- The run's stores of output 3. -/
theorem list3 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.1
    = stores3 c arg5 harg5 arg7 harg7 arg9 harg9 arg11 harg11 arg21 x1 x3 x5 x7 fh1 fs1 := rfl

/-- Output 3 after the kernel's stores, whatever was there before. -/
theorem reads3 (v : View sig .tc .vmem S2x3x4096 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.1)
      = want3 x1 x3 x5 x7 fh1 := by
  rw [list3]
  refine reads_of_agree v f (agree3 c arg5 harg5 arg7 harg7 arg9 harg9 arg11 harg11 arg21 x1 x3 x5 x7 fh1 fs1) fun a r p => ?_
  unfold stores3
  simp only [List.exists_mem_cons_iff, mem_piece]
  have := a.isLt
  have := p.isLt
  omega

/-- The run's stores of output 4. -/
theorem list4 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.1
    = stores4 c arg5 harg5 arg7 harg7 arg9 harg9 arg11 harg11 arg21 x1 x3 x5 x7 fh1 fs1 := rfl

/-- Output 4 after the kernel's stores, whatever was there before. -/
theorem reads4 (v : View sig .tc .vmem S2x12x4096 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.1)
      = want4 x1 x3 x5 x7 fh1 := by
  rw [list4]
  refine reads_of_agree v f (agree4 c arg5 harg5 arg7 harg7 arg9 harg9 arg11 harg11 arg21 x1 x3 x5 x7 fh1 fs1) fun a r p => ?_
  unfold stores4
  simp only [List.exists_mem_cons_iff, mem_piece]
  have := a.isLt
  have := p.isLt
  omega

/-- The run's stores of output 5. -/
theorem list5 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.1
    = stores5 c arg5 harg5 arg7 harg7 arg9 harg9 arg11 harg11 arg22 x1 x3 x5 x7 fh2 fs2 := rfl

/-- Output 5 after the kernel's stores, whatever was there before. -/
theorem reads5 (v : View sig .tc .vmem S2x3x1024 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.1)
      = want5 x1 x3 x5 x7 fh2 := by
  rw [list5]
  refine reads_of_agree v f (agree5 c arg5 harg5 arg7 harg7 arg9 harg9 arg11 harg11 arg22 x1 x3 x5 x7 fh2 fs2) fun a r p => ?_
  unfold stores5
  simp only [List.exists_mem_cons_iff, mem_piece]
  have := a.isLt
  have := p.isLt
  omega

/-- The run's stores of output 6. -/
theorem list6 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.2.1
    = stores6 c arg5 harg5 arg7 harg7 arg9 harg9 arg11 harg11 arg22 x1 x3 x5 x7 fh2 fs2 := rfl

/-- Output 6 after the kernel's stores, whatever was there before. -/
theorem reads6 (v : View sig .tc .vmem S2x12x1024 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.2.1)
      = want6 x1 x3 x5 x7 fh2 := by
  rw [list6]
  refine reads_of_agree v f (agree6 c arg5 harg5 arg7 harg7 arg9 harg9 arg11 harg11 arg22 x1 x3 x5 x7 fh2 fs2) fun a r p => ?_
  unfold stores6
  simp only [List.exists_mem_cons_iff, mem_piece]
  have := a.isLt
  have := p.isLt
  omega

/-- The run's stores of output 7. -/
theorem list7 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.2.2.1
    = stores7 c arg5 harg5 arg7 harg7 arg9 harg9 arg11 harg11 arg23 x1 x3 x5 x7 fh3 fs3 := rfl

/-- Output 7 after the kernel's stores, whatever was there before. -/
theorem reads7 (v : View sig .tc .vmem S2x3x256 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.2.2.1)
      = want7 x1 x3 x5 x7 fh3 := by
  rw [list7]
  refine reads_of_agree v f (agree7 c arg5 harg5 arg7 harg7 arg9 harg9 arg11 harg11 arg23 x1 x3 x5 x7 fh3 fs3) fun a r p => ?_
  unfold stores7
  simp only [List.exists_mem_cons_iff, mem_piece]
  have := a.isLt
  have := p.isLt
  omega

/-- The run's stores of output 8. -/
theorem list8 : (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.2.2.2.1
    = stores8 c arg5 harg5 arg7 harg7 arg9 harg9 arg11 harg11 arg23 x1 x3 x5 x7 fh3 fs3 := rfl

/-- Output 8 after the kernel's stores, whatever was there before. -/
theorem reads8 (v : View sig .tc .vmem S2x12x256 .f32) (f : v.ty.Contents (Elt Ideal)) :
    v.read (Elt Ideal) (v.writes (Elt Ideal) f (bodyRun c arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 fh0 fh1 fh2 fh3 fs0 fs1 fs2 fs3).2.2.2.2.2.2.2.1)
      = want8 x1 x3 x5 x7 fh3 := by
  rw [list8]
  refine reads_of_agree v f (agree8 c arg5 harg5 arg7 harg7 arg9 harg9 arg11 harg11 arg23 x1 x3 x5 x7 fh3 fs3) fun a r p => ?_
  unfold stores8
  simp only [List.exists_mem_cons_iff, mem_piece]
  have := a.isLt
  have := p.isLt
  omega

end Cert.KernelIdeal.Whole

end
-- ==== Proof.Final.lean ====
module

public import proofs.«01_k».proof.Proof.Pieces
public import Idealize.ShloMosaic.Lib.Claim

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (Pipeline.UD sig nD τ) ℕ

variable (m : (ℓ : Loc nD τ sig) → Buf (Elt Ideal) ℓ) (ρ : Dev nD → PrngReg)
/-! ## The pipeline's proof data -/

/-- The proof data of the one pipeline on core `c`: the arrays as the region finds them (`V`); after the body at
    point `t` each input's buffer at its block and each output's buffer at the head's values there (`want1` to
    `want8`); the invariant is the scoped rest, the generator register, the own cells at zero and the HBM operands at
    their launch contents; nothing is owed; full shares. -/
def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => want1 (iblk m c 0 t) (iblk m c 2 t) (iblk m c 4 t) (iblk m c 6 t) (V m c main_arg0)
    | ⟨9, _⟩ => want2 (iblk m c 0 t) (iblk m c 2 t) (iblk m c 4 t) (iblk m c 6 t) (V m c main_arg0)
    | ⟨10, _⟩ => want3 (iblk m c 1 t) (iblk m c 3 t) (iblk m c 5 t) (iblk m c 7 t) (V m c main_v19)
    | ⟨11, _⟩ => want4 (iblk m c 1 t) (iblk m c 3 t) (iblk m c 5 t) (iblk m c 7 t) (V m c main_v19)
    | ⟨12, _⟩ => want5 (iblk m c 1 t) (iblk m c 3 t) (iblk m c 5 t) (iblk m c 7 t) (V m c main_v21)
    | ⟨13, _⟩ => want6 (iblk m c 1 t) (iblk m c 3 t) (iblk m c 5 t) (iblk m c 7 t) (V m c main_v21)
    | ⟨14, _⟩ => want7 (iblk m c 1 t) (iblk m c 3 t) (iblk m c 5 t) (iblk m c 7 t) (V m c main_v23)
    | ⟨15, _⟩ => want8 (iblk m c 1 t) (iblk m c 3 t) (iblk m c 5 t) (iblk m c 7 t) (V m c main_v23)
    | ⟨_ + 16, h⟩ => absurd h (Nat.not_lt.2 (Nat.le_add_left _ _))
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = want1 (iblk m c 0 t) (iblk m c 2 t) (iblk m c 4 t) (iblk m c 6 t) (V m c main_arg0) := by dsimp only [dats]
theorem after0_9 (c : Dev nD) (t : Fin cfg0.N) : (dats m 0 c).after 9 t = want2 (iblk m c 0 t) (iblk m c 2 t) (iblk m c 4 t) (iblk m c 6 t) (V m c main_arg0) := by dsimp only [dats]
theorem after0_10 (c : Dev nD) (t : Fin cfg0.N) : (dats m 0 c).after 10 t = want3 (iblk m c 1 t) (iblk m c 3 t) (iblk m c 5 t) (iblk m c 7 t) (V m c main_v19) := by dsimp only [dats]
theorem after0_11 (c : Dev nD) (t : Fin cfg0.N) : (dats m 0 c).after 11 t = want4 (iblk m c 1 t) (iblk m c 3 t) (iblk m c 5 t) (iblk m c 7 t) (V m c main_v19) := by dsimp only [dats]
theorem after0_12 (c : Dev nD) (t : Fin cfg0.N) : (dats m 0 c).after 12 t = want5 (iblk m c 1 t) (iblk m c 3 t) (iblk m c 5 t) (iblk m c 7 t) (V m c main_v21) := by dsimp only [dats]
theorem after0_13 (c : Dev nD) (t : Fin cfg0.N) : (dats m 0 c).after 13 t = want6 (iblk m c 1 t) (iblk m c 3 t) (iblk m c 5 t) (iblk m c 7 t) (V m c main_v21) := by dsimp only [dats]
theorem after0_14 (c : Dev nD) (t : Fin cfg0.N) : (dats m 0 c).after 14 t = want7 (iblk m c 1 t) (iblk m c 3 t) (iblk m c 5 t) (iblk m c 7 t) (V m c main_v23) := by dsimp only [dats]
theorem after0_15 (c : Dev nD) (t : Fin cfg0.N) : (dats m 0 c).after 15 t = want8 (iblk m c 1 t) (iblk m c 3 t) (iblk m c 5 t) (iblk m c 7 t) (V m c main_v23) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t))

/-- A buffer owned at a value has some contents. -/
theorem owns_contents (c : Dev nD) {s : Shape} {e : EltTy} (a : Memref sig .tc .vmem s e) (d : s.Idx → Elt Ideal e) :
    (owns (c : Thread nD τ) a fullShare d : sProp 𝕄)
      ⊢ iprop(∃ f : Buf (Elt Ideal) (a.view.loc (c : Thread nD τ)), a.view.loc (c : Thread nD τ) ↦[a.view.set]{fullShare} f) := by
  unfold owns
  iintro ⟨%f, -, H⟩
  iexists f
  iexact H

set_option maxHeartbeats 2000000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    after0_0, after0_1, after0_2, after0_3, after0_4, after0_5, after0_6, after0_7, after0_8, after0_9, after0_10, after0_11, after0_12, after0_13, after0_14, after0_15]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨⟨%s0, HS0⟩, ⟨%s1, HS1⟩, ⟨%s2, HS2⟩, ⟨%s3, HS3⟩⟩, Hg, ⟨Hq0, Hq1⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  ihave HT0 := owns_contents c scM0_0 s0 $$ HS0
  icases HT0 with ⟨%fs0, HS0⟩
  ihave HT1 := owns_contents c scM0_1 s1 $$ HS1
  icases HT1 with ⟨%fs1, HS1⟩
  ihave HT2 := owns_contents c scM0_2 s2 $$ HS2
  icases HT2 with ⟨%fs2, HS2⟩
  ihave HT3 := owns_contents c scM0_3 s3 $$ HS3
  icases HT3 with ⟨%fs3, HS3⟩
  iapply ((bodyRun c _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (V m c main_arg0) (V m c main_v19) (V m c main_v21) (V m c main_v23) fs0 fs1 fs2 fs3).2.2.2.2.2.2.2.2 W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [Hq0]; · iexact Hq0
  isplitl [Hq1]; · iexact Hq1
  isplitl [Hh0]; · iexact Hh0
  isplitl [Hh1]; · iexact Hh1
  isplitl [Hh2]; · iexact Hh2
  isplitl [Hh3]; · iexact Hh3
  isplitl [HW]; · iexact HW
  iintro ⟨H0, H1, H2, H3, H4, H5, H6, H7, ⟨%e8, H8⟩, ⟨%e9, H9⟩, ⟨%e10, H10⟩, ⟨%e11, H11⟩, ⟨%e12, H12⟩, ⟨%e13, H13⟩, ⟨%e14, H14⟩, ⟨%e15, H15⟩, HS0, HS1, HS2, HS3, Hq0, Hq1, Hh0, Hh1, Hh2, Hh3, ⟨%W', HW'⟩⟩
  isplitl [HS0 HS1 HS2 HS3 Hg Hq0 Hq1 Hh0 Hh1 Hh2 Hh3]
  · isplitl [HS0 HS1 HS2 HS3]
    · isplitl [HS0]; · iexact HS0
      isplitl [HS1]; · iexact HS1
      isplitl [HS2]; · iexact HS2
      iexact HS3
    isplitl [Hg]
    · iexact Hg
    isplitl [Hq0 Hq1]
    · isplitl [Hq0]; · iexact Hq0
      iexact Hq1
    isplitl [Hh0]; · iexact Hh0
    isplitl [Hh1]; · iexact Hh1
    isplitl [Hh2]; · iexact Hh2
    iexact Hh3
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact reads1 c _ _ _ _ _ _ _ _ _ _ _ _ _ _ _ _ _ _ _ _ _ _ _ _ _ _ _ _ _ _ _ _ _ _ _ _ _ _ _ _ _ _ _ _ _ _ _ _ _ _ _ _ _ _ _ _ _ _
  isplitl [H9]
  · unfold owns; iexists _; isplitr
    swap; · iexact H9
    ipureintro; exact reads2 c _ _ _ _ _ _ _ _ _ _ _ _ _ _ _ _ _ _ _ _ _ _ _ _ _ _ _ _ _ _ _ _ _ _ _ _ _ _ _ _ _ _ _ _ _ _ _ _ _ _ _ _ _ _ _ _ _ _
  isplitl [H10]
  · unfold owns; iexists _; isplitr
    swap; · iexact H10
    ipureintro; exact reads3 c _ _ _ _ _ _ _ _ _ _ _ _ _ _ _ _ _ _ _ _ _ _ _ _ _ _ _ _ _ _ _ _ _ _ _ _ _ _ _ _ _ _ _ _ _ _ _ _ _ _ _ _ _ _ _ _ _ _
  isplitl [H11]
  · unfold owns; iexists _; isplitr
    swap; · iexact H11
    ipureintro; exact reads4 c _ _ _ _ _ _ _ _ _ _ _ _ _ _ _ _ _ _ _ _ _ _ _ _ _ _ _ _ _ _ _ _ _ _ _ _ _ _ _ _ _ _ _ _ _ _ _ _ _ _ _ _ _ _ _ _ _ _
  isplitl [H12]
  · unfold owns; iexists _; isplitr
    swap; · iexact H12
    ipureintro; exact reads5 c _ _ _ _ _ _ _ _ _ _ _ _ _ _ _ _ _ _ _ _ _ _ _ _ _ _ _ _ _ _ _ _ _ _ _ _ _ _ _ _ _ _ _ _ _ _ _ _ _ _ _ _ _ _ _ _ _ _
  isplitl [H13]
  · unfold owns; iexists _; isplitr
    swap; · iexact H13
    ipureintro; exact reads6 c _ _ _ _ _ _ _ _ _ _ _ _ _ _ _ _ _ _ _ _ _ _ _ _ _ _ _ _ _ _ _ _ _ _ _ _ _ _ _ _ _ _ _ _ _ _ _ _ _ _ _ _ _ _ _ _ _ _
  isplitl [H14]
  · unfold owns; iexists _; isplitr
    swap; · iexact H14
    ipureintro; exact reads7 c _ _ _ _ _ _ _ _ _ _ _ _ _ _ _ _ _ _ _ _ _ _ _ _ _ _ _ _ _ _ _ _ _ _ _ _ _ _ _ _ _ _ _ _ _ _ _ _ _ _ _ _ _ _ _ _ _ _
  unfold owns; iexists _; isplitr
  swap; · iexact H15
  ipureintro; exact reads8 c _ _ _ _ _ _ _ _ _ _ _ _ _ _ _ _ _ _ _ _ _ _ _ _ _ _ _ _ _ _ _ _ _ _ _ _ _ _ _ _ _ _ _ _ _ _ _ _ _ _ _ _ _ _ _ _ _ _

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run and the frame -/

-- the run's implicit arguments are found by unifying its conclusion with this one, which takes unfolding plain
-- definitions in a metavariable's type
set_option backward.isDefEq.respectTransparency.types false in
set_option maxHeartbeats 800000 in
/-- Every execution ends with every array of the pipeline at what the proof data says, every other array as the lines
    after the kernel leave it, and every counter at zero. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- The same without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The idealized kernel runs from any memory without a fault and leaves its arguments as they were. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.KernelIdeal.Whole

end
-- ==== Proof.Result.lean ====
module

public import proofs.«01_k».proof.Proof.Spec
public import proofs.«01_k».proof.Proof.Arrays

@[expose] public section

noncomputable section

/-!
What both programs compute: a head of one level as a function of the level's image, the convolution's weights and bias,
and the head's weights and bias. And when two descriptions of a head agree: the head reads its operands in range only.
-/

namespace Cert.Rpn

open Cert.KernelIdeal.Core Idealize.ShloMosaic

/-- A one-axis array at a natural number. -/
def at1 {A : ℕ} [NeZero A] (v : (⟨1, ![A]⟩ : Shape).Idx → EReal) (a : ℕ) : EReal := v (ix1 (Fin.ofNat A a))

/-- Read at an index of its own, `at1` is the vector's entry there. -/
theorem at1_eq {A : ℕ} [NeZero A] (v : (⟨1, ![A]⟩ : Shape).Idx → EReal) (i : Fin A) (a : ℕ) (h : i.val = a) :
    v (ix1 i) = at1 v a := by
  unfold at1; rw [ofNat_of i a h]

/-- The head of a level: result `i` is row `i 1` of the head at pixel `(i 2, i 3)` of image `i 0`. -/
def headOf (S R : ℕ) [NeZero S] [NeZero R] (feat : (⟨4, ![2, 256, S, S]⟩ : Shape).Idx → EReal)
    (cw : (⟨4, ![256, 256, 3, 3]⟩ : Shape).Idx → EReal) (cb : (⟨1, ![256]⟩ : Shape).Idx → EReal)
    (hw : (⟨4, ![R, 256, 1, 1]⟩ : Shape).Idx → EReal) (hb : (⟨1, ![R]⟩ : Shape).Idx → EReal) :
    (⟨4, ![2, R, S, S]⟩ : Shape).Idx → EReal :=
  fun i => head S (at4 feat (i 0).val) (at4 cw) (at1 cb) (fun k c => at4 hw k c 0 0) (at1 hb) (i 1).val (i 2).val (i 3).val

/-- A padded pixel reads the image in range only. -/
theorem px_congr {S : ℕ} {X X' : ℕ → ℕ → EReal} (h : ∀ y < S, ∀ x < S, X y x = X' y x) (y x : ℕ) : px S X y x = px S X' y x := by
  unfold px
  split_ifs with hc
  · exact h _ (by omega) _ (by omega)
  · rfl

/-- A tap's sum depends only on the image and weights at the channels that exist. -/
theorem tap_congr {S : ℕ} {X X' : ℕ → ℕ → ℕ → EReal} {W W' : ℕ → ℕ → ℕ → ℕ → EReal} {o : ℕ}
    (hX : ∀ c < 256, ∀ y < S, ∀ x < S, X c y x = X' c y x)
    (hW : ∀ c < 256, ∀ dy < 3, ∀ dx < 3, W o c dy dx = W' o c dy dx) (y x : ℕ) {dy dx : ℕ} (hdy : dy < 3) (hdx : dx < 3) :
    tap S X W o y x dy dx = tap S X' W' o y x dy dx := by
  unfold tap
  exact Finset.sum_congr rfl fun c _ => by rw [hW c c.isLt dy hdy dx hdx, px_congr (hX c c.isLt)]

/-- The convolution depends only on the image and weights at the channels that exist. -/
theorem conv_congr {S : ℕ} {X X' : ℕ → ℕ → ℕ → EReal} {W W' : ℕ → ℕ → ℕ → ℕ → EReal} {b b' : ℕ → EReal} {o : ℕ}
    (hX : ∀ c < 256, ∀ y < S, ∀ x < S, X c y x = X' c y x)
    (hW : ∀ c < 256, ∀ dy < 3, ∀ dx < 3, W o c dy dx = W' o c dy dx) (hb : b o = b' o) (y x : ℕ) :
    conv S X W b o y x = conv S X' W' b' o y x := by
  unfold conv
  rw [hb]
  simp only [tap_congr hX hW y x (show 0 < 3 by omega) (show 0 < 3 by omega), tap_congr hX hW y x (show 0 < 3 by omega) (show 1 < 3 by omega),
    tap_congr hX hW y x (show 0 < 3 by omega) (show 2 < 3 by omega), tap_congr hX hW y x (show 1 < 3 by omega) (show 0 < 3 by omega),
    tap_congr hX hW y x (show 1 < 3 by omega) (show 1 < 3 by omega), tap_congr hX hW y x (show 1 < 3 by omega) (show 2 < 3 by omega),
    tap_congr hX hW y x (show 2 < 3 by omega) (show 0 < 3 by omega), tap_congr hX hW y x (show 2 < 3 by omega) (show 1 < 3 by omega),
    tap_congr hX hW y x (show 2 < 3 by omega) (show 2 < 3 by omega)]

/-- Two descriptions of a head whose operands agree in range give one result. -/
theorem head_congr {S : ℕ} {X X' : ℕ → ℕ → ℕ → EReal} {W W' : ℕ → ℕ → ℕ → ℕ → EReal} {b b' : ℕ → EReal} {hw hw' : ℕ → ℕ → EReal}
    {hb hb' : ℕ → EReal} {k k' : ℕ}
    (hX : ∀ c < 256, ∀ y < S, ∀ x < S, X c y x = X' c y x)
    (hW : ∀ o < 256, ∀ c < 256, ∀ dy < 3, ∀ dx < 3, W o c dy dx = W' o c dy dx) (hB : ∀ o < 256, b o = b' o)
    (hH : ∀ c < 256, hw k c = hw' k' c) (hC : hb k = hb' k') (y x : ℕ) :
    head S X W b hw hb k y x = head S X' W' b' hw' hb' k' y x := by
  unfold head
  rw [hC]
  refine congrArg (· + hb' k') (Finset.sum_congr rfl fun c _ => ?_)
  rw [hH c c.isLt, conv_congr hX (hW c c.isLt) (hB c c.isLt)]

end Cert.Rpn

end
-- ==== Proof.Host.lean ====
module

public import proofs.«01_k».proof.Proof.Final
public import proofs.«01_k».proof.Proof.Result
public import Idealize.ShloMosaic.Lib.StableHlo.ReadAt
public import Idealize.ShloMosaic.Lib.Pipeline.ValueKit

@[expose] public section

set_option maxRecDepth 16384

noncomputable section

/-!
The operands the kernel's host lines prepare, as functions of the arguments.
-/

namespace Cert.KernelIdeal.Whole

open Cert.KernelIdeal Cert.KernelIdeal.Gen Cert.KernelIdeal.Core Cert.Rpn
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- The first level's convolution weights: one column tap's rows are output channels, its columns row taps and channels. -/
theorem V_v2 (d : Fin 3) (o : Fin 256) (j : Fin 768) :
    (V m c main_v2 : Vec Ideal S3x256x768 .bf16) (ix3 d o j)
      = (m ((c : Thread nD τ).loc main_arg4) : Vec Ideal S256x256x3x3 .f32) (ix4 o ⟨j.val % 256, by omega⟩ ⟨j.val / 256, by omega⟩ d) := by
  unfold V V0
  after_reads_at

/-- The other levels' convolution weights: the same, transposed. -/
theorem V_v5 (d : Fin 3) (j : Fin 768) (o : Fin 256) :
    (V m c main_v5 : Vec Ideal S3x768x256 .bf16) (ix3 d j o)
      = (m ((c : Thread nD τ).loc main_arg4) : Vec Ideal S256x256x3x3 .f32) (ix4 o ⟨j.val % 256, by omega⟩ ⟨j.val / 256, by omega⟩ d) := by
  unfold V V0
  after_reads_at

/-- The convolution's bias as a column. -/
theorem V_v6 (o : Fin 256) (z : Fin 1) :
    (V m c main_v6 : Vec Ideal S256x1 .f32) (ix2 o z) = (m ((c : Thread nD τ).loc main_arg5) : Vec Ideal S256 .f32) (ix1 o) := by
  unfold V V0
  after_reads_at

/-- The convolution's bias as a row. -/
theorem V_v7 (o : Fin 256) (z : Fin 1) :
    (V m c main_v7 : Vec Ideal S1x256 .f32) (ix2 z o) = (m ((c : Thread nD τ).loc main_arg5) : Vec Ideal S256 .f32) (ix1 o) := by
  unfold V V0
  after_reads_at

/-- The rows of the first level's head weights below three are the class head's -/
theorem V_v12_cls (r : Fin 3) (k : Fin 256) :
    (V m c main_v12 : Vec Ideal S16x256 .bf16) (ix2 ⟨r.val, by omega⟩ k) = (m ((c : Thread nD τ).loc main_arg6) : Vec Ideal S3x256x1x1 .f32) (ix4 r k 0 0) := by
  unfold V V0
  after_reads_at
  unfold StableHlo.upto
  after_reads_at
  exact dif_pos (by omega)
/-- and the next twelve the box head's. -/
theorem V_v12_box (r : Fin 12) (k : Fin 256) :
    (V m c main_v12 : Vec Ideal S16x256 .bf16) (ix2 ⟨3 + r.val, by omega⟩ k) = (m ((c : Thread nD τ).loc main_arg8) : Vec Ideal S12x256x1x1 .f32) (ix4 r k 0 0) := by
  unfold V V0
  after_reads_at
  unfold StableHlo.upto
  after_reads_at
  exact dif_pos (by omega)
/-- The same of the head biases, as a column: -/
theorem V_v16_cls (r : Fin 3) (z : Fin 1) :
    (V m c main_v16 : Vec Ideal S16x1 .f32) (ix2 ⟨r.val, by omega⟩ z) = (m ((c : Thread nD τ).loc main_arg7) : Vec Ideal S3 .f32) (ix1 r) := by
  unfold V V0
  after_reads_at
  unfold StableHlo.upto
  after_reads_at
  exact dif_pos (by omega)
/-- the box head's. -/
theorem V_v16_box (r : Fin 12) (z : Fin 1) :
    (V m c main_v16 : Vec Ideal S16x1 .f32) (ix2 ⟨3 + r.val, by omega⟩ z) = (m ((c : Thread nD τ).loc main_arg9) : Vec Ideal S12 .f32) (ix1 r) := by
  unfold V V0
  after_reads_at
  unfold StableHlo.upto
  after_reads_at
  exact dif_pos (by omega)
/-- The other levels' head weights are transposed -/
theorem V_v13_cls (r : Fin 3) (k : Fin 256) :
    (V m c main_v13 : Vec Ideal S256x16 .bf16) (ix2 k ⟨r.val, by omega⟩) = (m ((c : Thread nD τ).loc main_arg6) : Vec Ideal S3x256x1x1 .f32) (ix4 r k 0 0) := by
  unfold V V0
  after_reads_at
  unfold StableHlo.upto
  after_reads_at
  exact dif_pos (by omega)
/-- and hold the same rows. -/
theorem V_v13_box (r : Fin 12) (k : Fin 256) :
    (V m c main_v13 : Vec Ideal S256x16 .bf16) (ix2 k ⟨3 + r.val, by omega⟩) = (m ((c : Thread nD τ).loc main_arg8) : Vec Ideal S12x256x1x1 .f32) (ix4 r k 0 0) := by
  unfold V V0
  after_reads_at
  unfold StableHlo.upto
  after_reads_at
  exact dif_pos (by omega)
/-- The head biases as a row: -/
theorem V_v17_cls (r : Fin 3) (z : Fin 1) :
    (V m c main_v17 : Vec Ideal S1x16 .f32) (ix2 z ⟨r.val, by omega⟩) = (m ((c : Thread nD τ).loc main_arg7) : Vec Ideal S3 .f32) (ix1 r) := by
  unfold V V0
  after_reads_at
  unfold StableHlo.upto
  after_reads_at
  exact dif_pos (by omega)
/-- the box head's. -/
theorem V_v17_box (r : Fin 12) (z : Fin 1) :
    (V m c main_v17 : Vec Ideal S1x16 .f32) (ix2 z ⟨3 + r.val, by omega⟩) = (m ((c : Thread nD τ).loc main_arg9) : Vec Ideal S12 .f32) (ix1 r) := by
  unfold V V0
  after_reads_at
  unfold StableHlo.upto
  after_reads_at
  exact dif_pos (by omega)
/-- The second level's image, pixels row by row and channels last. -/
theorem V_v19 (n : Fin 2) (p : Fin 4096) (k : Fin 256) :
    (V m c main_v19 : Vec Ideal S2x4096x256 .f32) (ix3 n p k)
      = (m ((c : Thread nD τ).loc main_arg1) : Vec Ideal S2x256x64x64 .f32) (ix4 n k ⟨p.val / 64, by omega⟩ ⟨p.val % 64, by omega⟩) := by
  unfold V V0
  after_reads_at

/-- The third level's image. -/
theorem V_v21 (n : Fin 2) (p : Fin 1024) (k : Fin 256) :
    (V m c main_v21 : Vec Ideal S2x1024x256 .f32) (ix3 n p k)
      = (m ((c : Thread nD τ).loc main_arg2) : Vec Ideal S2x256x32x32 .f32) (ix4 n k ⟨p.val / 32, by omega⟩ ⟨p.val % 32, by omega⟩) := by
  unfold V V0
  after_reads_at

/-- The fourth level's image. -/
theorem V_v23 (n : Fin 2) (p : Fin 256) (k : Fin 256) :
    (V m c main_v23 : Vec Ideal S2x256x256 .f32) (ix3 n p k)
      = (m ((c : Thread nD τ).loc main_arg3) : Vec Ideal S2x256x16x16 .f32) (ix4 n k ⟨p.val / 16, by omega⟩ ⟨p.val % 16, by omega⟩) := by
  unfold V V0
  after_reads_at

/-! ## The heads over the arguments -/

/-- The class head of one image, as a function of the launch's arguments. -/
def clsHead (S : ℕ) (X : ℕ → ℕ → ℕ → EReal) : ℕ → ℕ → ℕ → EReal :=
  head S X (at4 (m ((c : Thread nD τ).loc main_arg4) : Vec Ideal S256x256x3x3 .f32)) (at1 (m ((c : Thread nD τ).loc main_arg5) : Vec Ideal S256 .f32))
    (fun k c' => at4 (m ((c : Thread nD τ).loc main_arg6) : Vec Ideal S3x256x1x1 .f32) k c' 0 0) (at1 (m ((c : Thread nD τ).loc main_arg7) : Vec Ideal S3 .f32))

/-- The box head of one image. -/
def boxHead (S : ℕ) (X : ℕ → ℕ → ℕ → EReal) : ℕ → ℕ → ℕ → EReal :=
  head S X (at4 (m ((c : Thread nD τ).loc main_arg4) : Vec Ideal S256x256x3x3 .f32)) (at1 (m ((c : Thread nD τ).loc main_arg5) : Vec Ideal S256 .f32))
    (fun k c' => at4 (m ((c : Thread nD τ).loc main_arg8) : Vec Ideal S12x256x1x1 .f32) k c' 0 0) (at1 (m ((c : Thread nD τ).loc main_arg9) : Vec Ideal S12 .f32))

/-- A number below a bound, taken into that bound's type, is itself. -/
theorem val_of {A a : ℕ} [NeZero A] (h : a < A) : (Fin.ofNat A a).val = a := by rw [Fin.val_ofNat, Nat.mod_eq_of_lt h]

/-- The first level's weights, tap by tap, are the argument's. -/
theorem weightP (o : ℕ) (ho : o < 256) (i : ℕ) (hi : i < 256) (dy : ℕ) (hdy : dy < 3) (dx : ℕ) (hdx : dx < 3) :
    wtP (V m c main_v2 : Vec Ideal S3x256x768 .bf16) o i dy dx = at4 (m ((c : Thread nD τ).loc main_arg4) : Vec Ideal S256x256x3x3 .f32) o i dy dx := by
  unfold wtP at3
  refine (V_v2 m c _ _ _).trans (at4_eq _ _ _ _ _ _ _ _ _ (val_of ho) ?_ ?_ (val_of hdx))
  · show (Fin.ofNat 768 (256 * dy + i)).val % 256 = i
    rw [val_of (by omega)]; omega
  · show (Fin.ofNat 768 (256 * dy + i)).val / 256 = dy
    rw [val_of (by omega)]; omega

/-- And the other levels'. -/
theorem weightF (o : ℕ) (ho : o < 256) (i : ℕ) (hi : i < 256) (dy : ℕ) (hdy : dy < 3) (dx : ℕ) (hdx : dx < 3) :
    wtF (V m c main_v5 : Vec Ideal S3x768x256 .bf16) o i dy dx = at4 (m ((c : Thread nD τ).loc main_arg4) : Vec Ideal S256x256x3x3 .f32) o i dy dx := by
  unfold wtF at3
  refine (V_v5 m c _ _ _).trans (at4_eq _ _ _ _ _ _ _ _ _ (val_of ho) ?_ ?_ (val_of hdx))
  · show (Fin.ofNat 768 (256 * dy + i)).val % 256 = i
    rw [val_of (by omega)]; omega
  · show (Fin.ofNat 768 (256 * dy + i)).val / 256 = dy
    rw [val_of (by omega)]; omega

/-- A row of the stacked operands is the row of its own number. -/
theorem ofNat_row {A r : ℕ} [NeZero A] (h : r < A) : Fin.ofNat A r = ⟨r, h⟩ := Fin.ext (val_of h)

/-- The first level's class rows are the class head of the argument. -/
theorem headP_cls (n k y x : ℕ) (hk : k < 3) :
    headP (V m c main_v2) (V m c main_v6) (V m c main_v12) (V m c main_v16) (V m c main_arg0) n (0 + k) y x
      = clsHead m c 128 (at4 (m ((c : Thread nD τ).loc main_arg0) : Vec Ideal S2x256x128x128 .f32) n) k y x := by
  unfold headP clsHead
  rw [V_main_arg0]
  refine head_congr (fun _ _ _ _ _ _ => rfl) (weightP m c) (fun o ho => ?_) (fun i hi => ?_) ?_ y x
  · exact (V_v6 m c _ _).trans (at1_eq _ _ _ (val_of ho))
  · show (V m c main_v12 : Vec Ideal S16x256 .bf16) (ix2 (Fin.ofNat 16 (0 + k)) (Fin.ofNat 256 i)) = _
    rw [ofNat_row (show 0 + k < 16 by omega)]
    refine Eq.trans ?_ ((V_v12_cls m c ⟨k, hk⟩ (Fin.ofNat 256 i)).trans (at4_eq _ _ _ _ _ _ _ _ _ rfl (val_of hi) rfl rfl))
    exact congrArg (fun r => (V m c main_v12 : Vec Ideal S16x256 .bf16) (ix2 r (Fin.ofNat 256 i))) (Fin.ext (Nat.zero_add k))
  · show (V m c main_v16 : Vec Ideal S16x1 .f32) (ix2 (Fin.ofNat 16 (0 + k)) (Fin.ofNat 1 0)) = _
    rw [ofNat_row (show 0 + k < 16 by omega)]
    refine Eq.trans ?_ ((V_v16_cls m c ⟨k, hk⟩ (Fin.ofNat 1 0)).trans (at1_eq _ _ _ rfl))
    exact congrArg (fun r => (V m c main_v16 : Vec Ideal S16x1 .f32) (ix2 r (Fin.ofNat 1 0))) (Fin.ext (Nat.zero_add k))

/-- And its box rows the box head. -/
theorem headP_box (n k y x : ℕ) (hk : k < 12) :
    headP (V m c main_v2) (V m c main_v6) (V m c main_v12) (V m c main_v16) (V m c main_arg0) n (3 + k) y x
      = boxHead m c 128 (at4 (m ((c : Thread nD τ).loc main_arg0) : Vec Ideal S2x256x128x128 .f32) n) k y x := by
  unfold headP boxHead
  rw [V_main_arg0]
  refine head_congr (fun _ _ _ _ _ _ => rfl) (weightP m c) (fun o ho => ?_) (fun i hi => ?_) ?_ y x
  · exact (V_v6 m c _ _).trans (at1_eq _ _ _ (val_of ho))
  · show (V m c main_v12 : Vec Ideal S16x256 .bf16) (ix2 (Fin.ofNat 16 (3 + k)) (Fin.ofNat 256 i)) = _
    rw [ofNat_row (show 3 + k < 16 by omega)]
    exact (V_v12_box m c ⟨k, hk⟩ (Fin.ofNat 256 i)).trans (at4_eq _ _ _ _ _ _ _ _ _ rfl (val_of hi) rfl rfl)
  · show (V m c main_v16 : Vec Ideal S16x1 .f32) (ix2 (Fin.ofNat 16 (3 + k)) (Fin.ofNat 1 0)) = _
    rw [ofNat_row (show 3 + k < 16 by omega)]
    exact (V_v16_box m c ⟨k, hk⟩ (Fin.ofNat 1 0)).trans (at1_eq _ _ _ rfl)

section Levels

variable {U S : ℕ} [NeZero U] (A : Vec Ideal ⟨3, ![2, U, 256]⟩ .f32) (X : ℕ → ℕ → ℕ → ℕ → EReal) (n k y x : ℕ)
  (hA : ∀ i < 256, ∀ y < S, ∀ x < S, imgF S A n i y x = X n i y x)

include hA in
/-- Another level's class rows are the class head of its image. -/
theorem headF_cls (hk : k < 3) :
    headF S (V m c main_v5) (V m c main_v7) (V m c main_v13) (V m c main_v17) A n (0 + k) y x = clsHead m c S (X n) k y x := by
  unfold headF clsHead
  refine head_congr hA (weightF m c) (fun o ho => ?_) (fun i hi => ?_) ?_ y x
  · exact (V_v7 m c _ _).trans (at1_eq _ _ _ (val_of ho))
  · show (V m c main_v13 : Vec Ideal S256x16 .bf16) (ix2 (Fin.ofNat 256 i) (Fin.ofNat 16 (0 + k))) = _
    rw [ofNat_row (show 0 + k < 16 by omega)]
    refine Eq.trans ?_ ((V_v13_cls m c ⟨k, hk⟩ (Fin.ofNat 256 i)).trans (at4_eq _ _ _ _ _ _ _ _ _ rfl (val_of hi) rfl rfl))
    exact congrArg (fun r => (V m c main_v13 : Vec Ideal S256x16 .bf16) (ix2 (Fin.ofNat 256 i) r)) (Fin.ext (Nat.zero_add k))
  · show (V m c main_v17 : Vec Ideal S1x16 .f32) (ix2 (Fin.ofNat 1 0) (Fin.ofNat 16 (0 + k))) = _
    rw [ofNat_row (show 0 + k < 16 by omega)]
    refine Eq.trans ?_ ((V_v17_cls m c ⟨k, hk⟩ (Fin.ofNat 1 0)).trans (at1_eq _ _ _ rfl))
    exact congrArg (fun r => (V m c main_v17 : Vec Ideal S1x16 .f32) (ix2 (Fin.ofNat 1 0) r)) (Fin.ext (Nat.zero_add k))

include hA in
/-- And its box rows the box head. -/
theorem headF_box (hk : k < 12) :
    headF S (V m c main_v5) (V m c main_v7) (V m c main_v13) (V m c main_v17) A n (3 + k) y x = boxHead m c S (X n) k y x := by
  unfold headF boxHead
  refine head_congr hA (weightF m c) (fun o ho => ?_) (fun i hi => ?_) ?_ y x
  · exact (V_v7 m c _ _).trans (at1_eq _ _ _ (val_of ho))
  · show (V m c main_v13 : Vec Ideal S256x16 .bf16) (ix2 (Fin.ofNat 256 i) (Fin.ofNat 16 (3 + k))) = _
    rw [ofNat_row (show 3 + k < 16 by omega)]
    exact (V_v13_box m c ⟨k, hk⟩ (Fin.ofNat 256 i)).trans (at4_eq _ _ _ _ _ _ _ _ _ rfl (val_of hi) rfl rfl)
  · show (V m c main_v17 : Vec Ideal S1x16 .f32) (ix2 (Fin.ofNat 1 0) (Fin.ofNat 16 (3 + k))) = _
    rw [ofNat_row (show 3 + k < 16 by omega)]
    exact (V_v17_box m c ⟨k, hk⟩ (Fin.ofNat 1 0)).trans (at1_eq _ _ _ rfl)

end Levels

/-- The flat image of a level whose pixels are numbered row by row is the level's image. -/
theorem imgF_of {U S : ℕ} [NeZero U] [NeZero S] (hU : U = S * S) (A : Vec Ideal ⟨3, ![2, U, 256]⟩ .f32) (B : Vec Ideal ⟨4, ![2, 256, S, S]⟩ .f32)
    (h : ∀ (n : Fin 2) (p : Fin U) (k : Fin 256) (hd : p.val / S < S) (hm : p.val % S < S), A (ix3 n p k) = B (ix4 n k ⟨p.val / S, hd⟩ ⟨p.val % S, hm⟩))
    (n : ℕ) (i : ℕ) (hi : i < 256) (y : ℕ) (hy : y < S) (x : ℕ) (hx : x < S) : imgF S A n i y x = at4 B n i y x := by
  have hS : 0 < S := by omega
  have hlt : S * y + x < U := by
    have := Nat.mul_le_mul_left S (show y + 1 ≤ S by omega)
    rw [Nat.mul_add] at this
    omega
  have e1 : (S * y + x) / S = y := by rw [Nat.mul_add_div hS, Nat.div_eq_of_lt hx]; omega
  have e2 : (S * y + x) % S = x := by rw [Nat.mul_add_mod, Nat.mod_eq_of_lt hx]
  unfold imgF at3
  have hv : (Fin.ofNat U (S * y + x)).val = S * y + x := val_of hlt
  refine (h _ _ _ (by rw [hv, e1]; exact hy) (by rw [hv, e2]; exact hx)).trans ?_
  unfold at4
  congr 2
  · exact Fin.ext (by rw [val_of hy]; show (Fin.ofNat U (S * y + x)).val / S = y; rw [hv, e1])
  · exact Fin.ext (by rw [val_of hx]; show (Fin.ofNat U (S * y + x)).val % S = x; rw [hv, e2])

end Cert.KernelIdeal.Whole

end
-- ==== Proof.Outs.lean ====
module

public import proofs.«01_k».proof.Proof.Host

@[expose] public section

set_option maxRecDepth 16384

noncomputable section

/-!
The kernel's eight results: the pipeline's output arrays, reshaped by the host lines after it, are the heads of the
arguments.
-/

namespace Cert.KernelIdeal.Whole

open Cert.KernelIdeal Cert.KernelIdeal.Gen Cert.KernelIdeal.Core Cert.Rpn
open Idealize.ShloMosaic Idealize.ShloMosaic.TcCoe Idealize.SL.Sem
open Idealize.ShloMosaic.Pipeline (Dat Cfg Window)

variable (m : (ℓ : Loc nD τ sig) → Buf (Elt Ideal) ℓ) (c : Dev nD)

/-- Every window's block is the whole array: its one block starts at zero. -/
theorem index_zero (w : Fin cfg0.W) (t : Fin cfg0.N) (a) : (cfg0.win w).index t a = 0 := by
  fin_cases w <;> fin_cases a <;> rfl

/-! ## The staged operands are the whole operands -/

/-- At every grid point the block of window 0 is the whole operand: the first level's convolution weights. -/
theorem iblk0_0 (t : Fin cfg0.N) : (iblk m c 0 t : Vec Ideal S3x256x768 .bf16) = V m c main_v2 := by
  funext y
  exact congrArg (V m c main_v2) (funext fun a => Fin.ext (Pipeline.Window.rect_emb_val_of_index_zero (cfg0.win 0) t a (index_zero 0 t a) y))
/-- At every grid point the block of window 1 is the whole operand: the other levels' convolution weights. -/
theorem iblk0_1 (t : Fin cfg0.N) : (iblk m c 1 t : Vec Ideal S3x768x256 .bf16) = V m c main_v5 := by
  funext y
  exact congrArg (V m c main_v5) (funext fun a => Fin.ext (Pipeline.Window.rect_emb_val_of_index_zero (cfg0.win 1) t a (index_zero 1 t a) y))
/-- At every grid point the block of window 2 is the whole operand: the first level's convolution bias. -/
theorem iblk0_2 (t : Fin cfg0.N) : (iblk m c 2 t : Vec Ideal S256x1 .f32) = V m c main_v6 := by
  funext y
  exact congrArg (V m c main_v6) (funext fun a => Fin.ext (Pipeline.Window.rect_emb_val_of_index_zero (cfg0.win 2) t a (index_zero 2 t a) y))
/-- At every grid point the block of window 3 is the whole operand: the other levels' convolution bias. -/
theorem iblk0_3 (t : Fin cfg0.N) : (iblk m c 3 t : Vec Ideal S1x256 .f32) = V m c main_v7 := by
  funext y
  exact congrArg (V m c main_v7) (funext fun a => Fin.ext (Pipeline.Window.rect_emb_val_of_index_zero (cfg0.win 3) t a (index_zero 3 t a) y))
/-- At every grid point the block of window 4 is the whole operand: the first level's head weights. -/
theorem iblk0_4 (t : Fin cfg0.N) : (iblk m c 4 t : Vec Ideal S16x256 .bf16) = V m c main_v12 := by
  funext y
  exact congrArg (V m c main_v12) (funext fun a => Fin.ext (Pipeline.Window.rect_emb_val_of_index_zero (cfg0.win 4) t a (index_zero 4 t a) y))
/-- At every grid point the block of window 5 is the whole operand: the other levels' head weights. -/
theorem iblk0_5 (t : Fin cfg0.N) : (iblk m c 5 t : Vec Ideal S256x16 .bf16) = V m c main_v13 := by
  funext y
  exact congrArg (V m c main_v13) (funext fun a => Fin.ext (Pipeline.Window.rect_emb_val_of_index_zero (cfg0.win 5) t a (index_zero 5 t a) y))
/-- At every grid point the block of window 6 is the whole operand: the first level's head bias. -/
theorem iblk0_6 (t : Fin cfg0.N) : (iblk m c 6 t : Vec Ideal S16x1 .f32) = V m c main_v16 := by
  funext y
  exact congrArg (V m c main_v16) (funext fun a => Fin.ext (Pipeline.Window.rect_emb_val_of_index_zero (cfg0.win 6) t a (index_zero 6 t a) y))
/-- At every grid point the block of window 7 is the whole operand: the other levels' head bias. -/
theorem iblk0_7 (t : Fin cfg0.N) : (iblk m c 7 t : Vec Ideal S1x16 .f32) = V m c main_v17 := by
  funext y
  exact congrArg (V m c main_v17) (funext fun a => Fin.ext (Pipeline.Window.rect_emb_val_of_index_zero (cfg0.win 7) t a (index_zero 7 t a) y))

/-! ## The pipeline's output arrays -/

/-- After the last grid point the array of window 8 holds the head's values `want1` everywhere. -/
theorem out_8 : (dats m 0 c).arrAt 8 cfg0.N = want1 (V m c main_v2) (V m c main_v6) (V m c main_v12) (V m c main_v16) (V m c main_arg0) := by
  refine (dats m 0 c).arrAt_eq_of_covers 8 _ (by decide +kernel) fun t hf y => ?_
  rw [after0_8]
  refine Eq.trans ?_ (congrArg (want1 (V m c main_v2) (V m c main_v6) (V m c main_v12) (V m c main_v16) (V m c main_arg0))
    (funext fun a => Fin.ext (Pipeline.Window.rect_emb_val_of_index_zero (cfg0.win 8) t a (index_zero 8 t a) y).symm))
  blk_simp
  rw [iblk0_0, iblk0_2, iblk0_4, iblk0_6]
/-- After the last grid point the array of window 9 holds the head's values `want2` everywhere. -/
theorem out_9 : (dats m 0 c).arrAt 9 cfg0.N = want2 (V m c main_v2) (V m c main_v6) (V m c main_v12) (V m c main_v16) (V m c main_arg0) := by
  refine (dats m 0 c).arrAt_eq_of_covers 9 _ (by decide +kernel) fun t hf y => ?_
  rw [after0_9]
  refine Eq.trans ?_ (congrArg (want2 (V m c main_v2) (V m c main_v6) (V m c main_v12) (V m c main_v16) (V m c main_arg0))
    (funext fun a => Fin.ext (Pipeline.Window.rect_emb_val_of_index_zero (cfg0.win 9) t a (index_zero 9 t a) y).symm))
  blk_simp
  rw [iblk0_0, iblk0_2, iblk0_4, iblk0_6]
/-- After the last grid point the array of window 10 holds the head's values `want3` everywhere. -/
theorem out_10 : (dats m 0 c).arrAt 10 cfg0.N = want3 (V m c main_v5) (V m c main_v7) (V m c main_v13) (V m c main_v17) (V m c main_v19) := by
  refine (dats m 0 c).arrAt_eq_of_covers 10 _ (by decide +kernel) fun t hf y => ?_
  rw [after0_10]
  refine Eq.trans ?_ (congrArg (want3 (V m c main_v5) (V m c main_v7) (V m c main_v13) (V m c main_v17) (V m c main_v19))
    (funext fun a => Fin.ext (Pipeline.Window.rect_emb_val_of_index_zero (cfg0.win 10) t a (index_zero 10 t a) y).symm))
  blk_simp
  rw [iblk0_1, iblk0_3, iblk0_5, iblk0_7]
/-- After the last grid point the array of window 11 holds the head's values `want4` everywhere. -/
theorem out_11 : (dats m 0 c).arrAt 11 cfg0.N = want4 (V m c main_v5) (V m c main_v7) (V m c main_v13) (V m c main_v17) (V m c main_v19) := by
  refine (dats m 0 c).arrAt_eq_of_covers 11 _ (by decide +kernel) fun t hf y => ?_
  rw [after0_11]
  refine Eq.trans ?_ (congrArg (want4 (V m c main_v5) (V m c main_v7) (V m c main_v13) (V m c main_v17) (V m c main_v19))
    (funext fun a => Fin.ext (Pipeline.Window.rect_emb_val_of_index_zero (cfg0.win 11) t a (index_zero 11 t a) y).symm))
  blk_simp
  rw [iblk0_1, iblk0_3, iblk0_5, iblk0_7]
/-- After the last grid point the array of window 12 holds the head's values `want5` everywhere. -/
theorem out_12 : (dats m 0 c).arrAt 12 cfg0.N = want5 (V m c main_v5) (V m c main_v7) (V m c main_v13) (V m c main_v17) (V m c main_v21) := by
  refine (dats m 0 c).arrAt_eq_of_covers 12 _ (by decide +kernel) fun t hf y => ?_
  rw [after0_12]
  refine Eq.trans ?_ (congrArg (want5 (V m c main_v5) (V m c main_v7) (V m c main_v13) (V m c main_v17) (V m c main_v21))
    (funext fun a => Fin.ext (Pipeline.Window.rect_emb_val_of_index_zero (cfg0.win 12) t a (index_zero 12 t a) y).symm))
  blk_simp
  rw [iblk0_1, iblk0_3, iblk0_5, iblk0_7]
/-- After the last grid point the array of window 13 holds the head's values `want6` everywhere. -/
theorem out_13 : (dats m 0 c).arrAt 13 cfg0.N = want6 (V m c main_v5) (V m c main_v7) (V m c main_v13) (V m c main_v17) (V m c main_v21) := by
  refine (dats m 0 c).arrAt_eq_of_covers 13 _ (by decide +kernel) fun t hf y => ?_
  rw [after0_13]
  refine Eq.trans ?_ (congrArg (want6 (V m c main_v5) (V m c main_v7) (V m c main_v13) (V m c main_v17) (V m c main_v21))
    (funext fun a => Fin.ext (Pipeline.Window.rect_emb_val_of_index_zero (cfg0.win 13) t a (index_zero 13 t a) y).symm))
  blk_simp
  rw [iblk0_1, iblk0_3, iblk0_5, iblk0_7]
/-- After the last grid point the array of window 14 holds the head's values `want7` everywhere. -/
theorem out_14 : (dats m 0 c).arrAt 14 cfg0.N = want7 (V m c main_v5) (V m c main_v7) (V m c main_v13) (V m c main_v17) (V m c main_v23) := by
  refine (dats m 0 c).arrAt_eq_of_covers 14 _ (by decide +kernel) fun t hf y => ?_
  rw [after0_14]
  refine Eq.trans ?_ (congrArg (want7 (V m c main_v5) (V m c main_v7) (V m c main_v13) (V m c main_v17) (V m c main_v23))
    (funext fun a => Fin.ext (Pipeline.Window.rect_emb_val_of_index_zero (cfg0.win 14) t a (index_zero 14 t a) y).symm))
  blk_simp
  rw [iblk0_1, iblk0_3, iblk0_5, iblk0_7]
/-- After the last grid point the array of window 15 holds the head's values `want8` everywhere. -/
theorem out_15 : (dats m 0 c).arrAt 15 cfg0.N = want8 (V m c main_v5) (V m c main_v7) (V m c main_v13) (V m c main_v17) (V m c main_v23) := by
  refine (dats m 0 c).arrAt_eq_of_covers 15 _ (by decide +kernel) fun t hf y => ?_
  rw [after0_15]
  refine Eq.trans ?_ (congrArg (want8 (V m c main_v5) (V m c main_v7) (V m c main_v13) (V m c main_v17) (V m c main_v23))
    (funext fun a => Fin.ext (Pipeline.Window.rect_emb_val_of_index_zero (cfg0.win 15) t a (index_zero 15 t a) y).symm))
  blk_simp
  rw [iblk0_1, iblk0_3, iblk0_5, iblk0_7]

/-! ## The host lines after the pipeline -/

/-- What a buffer holds at the end: the lines after the pipeline on its arrays. -/
abbrev ended (b : Ref sig .tc) : Buf (Elt Ideal) ((c : Thread nD τ).loc b) := Pipeline.afterTail₀ cfgs (dats m) 0 (V0 m) [hostOps1] c b

/-- A head's flat result, its pixels put back into rows and columns, is the head at row and column. -/
theorem rows_of {R T S off : ℕ} [NeZero S] (hd : ℕ → ℕ → ℕ → ℕ → EReal) (n : Fin 2) (k : Fin R) (y x : Fin S) (h : y.val * S + x.val < T) :
    outG R T S off hd (ix3 n k ⟨y.val * S + x.val, h⟩) = hd n.val (off + k.val) y.val x.val := by
  have hS : 0 < S := by have := y.isLt; omega
  unfold outG
  show hd n.val (off + k.val) ((y.val * S + x.val) / S) ((y.val * S + x.val) % S) = _
  rw [Nat.mul_comm y.val S, Nat.mul_add_div hS, Nat.div_eq_of_lt x.isLt, Nat.mul_add_mod, Nat.mod_eq_of_lt x.isLt, Nat.add_zero]

/-- Result 0 is the class head of level 0. -/
theorem result_0 : (ended m c main_v24_0 : Vec Ideal S2x3x128x128 .f32)
    = headOf 128 3 (m ((c : Thread nD τ).loc main_arg0) : Vec Ideal S2x256x128x128 .f32) (m ((c : Thread nD τ).loc main_arg4) : Vec Ideal S256x256x3x3 .f32) (m ((c : Thread nD τ).loc main_arg5) : Vec Ideal S256 .f32)
        (m ((c : Thread nD τ).loc main_arg6) : Vec Ideal S3x256x1x1 .f32) (m ((c : Thread nD τ).loc main_arg7) : Vec Ideal S3 .f32) := by
  funext i
  change S2x3x128x128.Idx at i
  unfold ended Pipeline.afterTail₀
  rw [eq_ix4 i]
  after_reads_at
  refine (congrFun ((Pipeline.withArrays_arr spec0 launch0.win.arr_inj c (V0 m c) (fun w => (dats m 0 c).arrAt w (cfgs 0).N) 8).trans
    (out_8 m c)) _).trans ?_
  refine (rows_of (R := 3) (T := 16384) (S := 128) (off := 0) _ (i 0) (i 1) (i 2) (i 3) _).trans ?_
  exact headP_cls m c _ _ _ _ (i 1).isLt

/-- Result 4 is the box head of level 0. -/
theorem result_4 : (ended m c main_v24_4 : Vec Ideal S2x12x128x128 .f32)
    = headOf 128 12 (m ((c : Thread nD τ).loc main_arg0) : Vec Ideal S2x256x128x128 .f32) (m ((c : Thread nD τ).loc main_arg4) : Vec Ideal S256x256x3x3 .f32) (m ((c : Thread nD τ).loc main_arg5) : Vec Ideal S256 .f32)
        (m ((c : Thread nD τ).loc main_arg8) : Vec Ideal S12x256x1x1 .f32) (m ((c : Thread nD τ).loc main_arg9) : Vec Ideal S12 .f32) := by
  funext i
  change S2x12x128x128.Idx at i
  unfold ended Pipeline.afterTail₀
  rw [eq_ix4 i]
  after_reads_at
  refine (congrFun ((Pipeline.withArrays_arr spec0 launch0.win.arr_inj c (V0 m c) (fun w => (dats m 0 c).arrAt w (cfgs 0).N) 9).trans
    (out_9 m c)) _).trans ?_
  refine (rows_of (R := 12) (T := 16384) (S := 128) (off := 3) _ (i 0) (i 1) (i 2) (i 3) _).trans ?_
  exact headP_box m c _ _ _ _ (i 1).isLt

/-- Result 1 is the class head of level 1. -/
theorem result_1 : (ended m c main_v24_1 : Vec Ideal S2x3x64x64 .f32)
    = headOf 64 3 (m ((c : Thread nD τ).loc main_arg1) : Vec Ideal S2x256x64x64 .f32) (m ((c : Thread nD τ).loc main_arg4) : Vec Ideal S256x256x3x3 .f32) (m ((c : Thread nD τ).loc main_arg5) : Vec Ideal S256 .f32)
        (m ((c : Thread nD τ).loc main_arg6) : Vec Ideal S3x256x1x1 .f32) (m ((c : Thread nD τ).loc main_arg7) : Vec Ideal S3 .f32) := by
  funext i
  change S2x3x64x64.Idx at i
  unfold ended Pipeline.afterTail₀
  rw [eq_ix4 i]
  after_reads_at
  refine (congrFun ((Pipeline.withArrays_arr spec0 launch0.win.arr_inj c (V0 m c) (fun w => (dats m 0 c).arrAt w (cfgs 0).N) 10).trans
    (out_10 m c)) _).trans ?_
  refine (rows_of (R := 3) (T := 4096) (S := 64) (off := 0) _ (i 0) (i 1) (i 2) (i 3) _).trans ?_
  exact headF_cls m c _ (fun n => at4 (m ((c : Thread nD τ).loc main_arg1) : Vec Ideal S2x256x64x64 .f32) n) _ _ _ _
    (imgF_of (by rfl) _ _ (fun n p k _ _ => V_v19 m c n p k) _) (i 1).isLt

/-- Result 5 is the box head of level 1. -/
theorem result_5 : (ended m c main_v24_5 : Vec Ideal S2x12x64x64 .f32)
    = headOf 64 12 (m ((c : Thread nD τ).loc main_arg1) : Vec Ideal S2x256x64x64 .f32) (m ((c : Thread nD τ).loc main_arg4) : Vec Ideal S256x256x3x3 .f32) (m ((c : Thread nD τ).loc main_arg5) : Vec Ideal S256 .f32)
        (m ((c : Thread nD τ).loc main_arg8) : Vec Ideal S12x256x1x1 .f32) (m ((c : Thread nD τ).loc main_arg9) : Vec Ideal S12 .f32) := by
  funext i
  change S2x12x64x64.Idx at i
  unfold ended Pipeline.afterTail₀
  rw [eq_ix4 i]
  after_reads_at
  refine (congrFun ((Pipeline.withArrays_arr spec0 launch0.win.arr_inj c (V0 m c) (fun w => (dats m 0 c).arrAt w (cfgs 0).N) 11).trans
    (out_11 m c)) _).trans ?_
  refine (rows_of (R := 12) (T := 4096) (S := 64) (off := 3) _ (i 0) (i 1) (i 2) (i 3) _).trans ?_
  exact headF_box m c _ (fun n => at4 (m ((c : Thread nD τ).loc main_arg1) : Vec Ideal S2x256x64x64 .f32) n) _ _ _ _
    (imgF_of (by rfl) _ _ (fun n p k _ _ => V_v19 m c n p k) _) (i 1).isLt

/-- Result 2 is the class head of level 2. -/
theorem result_2 : (ended m c main_v24_2 : Vec Ideal S2x3x32x32 .f32)
    = headOf 32 3 (m ((c : Thread nD τ).loc main_arg2) : Vec Ideal S2x256x32x32 .f32) (m ((c : Thread nD τ).loc main_arg4) : Vec Ideal S256x256x3x3 .f32) (m ((c : Thread nD τ).loc main_arg5) : Vec Ideal S256 .f32)
        (m ((c : Thread nD τ).loc main_arg6) : Vec Ideal S3x256x1x1 .f32) (m ((c : Thread nD τ).loc main_arg7) : Vec Ideal S3 .f32) := by
  funext i
  change S2x3x32x32.Idx at i
  unfold ended Pipeline.afterTail₀
  rw [eq_ix4 i]
  after_reads_at
  refine (congrFun ((Pipeline.withArrays_arr spec0 launch0.win.arr_inj c (V0 m c) (fun w => (dats m 0 c).arrAt w (cfgs 0).N) 12).trans
    (out_12 m c)) _).trans ?_
  refine (rows_of (R := 3) (T := 1024) (S := 32) (off := 0) _ (i 0) (i 1) (i 2) (i 3) _).trans ?_
  exact headF_cls m c _ (fun n => at4 (m ((c : Thread nD τ).loc main_arg2) : Vec Ideal S2x256x32x32 .f32) n) _ _ _ _
    (imgF_of (by rfl) _ _ (fun n p k _ _ => V_v21 m c n p k) _) (i 1).isLt

/-- Result 6 is the box head of level 2. -/
theorem result_6 : (ended m c main_v24_6 : Vec Ideal S2x12x32x32 .f32)
    = headOf 32 12 (m ((c : Thread nD τ).loc main_arg2) : Vec Ideal S2x256x32x32 .f32) (m ((c : Thread nD τ).loc main_arg4) : Vec Ideal S256x256x3x3 .f32) (m ((c : Thread nD τ).loc main_arg5) : Vec Ideal S256 .f32)
        (m ((c : Thread nD τ).loc main_arg8) : Vec Ideal S12x256x1x1 .f32) (m ((c : Thread nD τ).loc main_arg9) : Vec Ideal S12 .f32) := by
  funext i
  change S2x12x32x32.Idx at i
  unfold ended Pipeline.afterTail₀
  rw [eq_ix4 i]
  after_reads_at
  refine (congrFun ((Pipeline.withArrays_arr spec0 launch0.win.arr_inj c (V0 m c) (fun w => (dats m 0 c).arrAt w (cfgs 0).N) 13).trans
    (out_13 m c)) _).trans ?_
  refine (rows_of (R := 12) (T := 1024) (S := 32) (off := 3) _ (i 0) (i 1) (i 2) (i 3) _).trans ?_
  exact headF_box m c _ (fun n => at4 (m ((c : Thread nD τ).loc main_arg2) : Vec Ideal S2x256x32x32 .f32) n) _ _ _ _
    (imgF_of (by rfl) _ _ (fun n p k _ _ => V_v21 m c n p k) _) (i 1).isLt

/-- Result 3 is the class head of level 3. -/
theorem result_3 : (ended m c main_v24_3 : Vec Ideal S2x3x16x16 .f32)
    = headOf 16 3 (m ((c : Thread nD τ).loc main_arg3) : Vec Ideal S2x256x16x16 .f32) (m ((c : Thread nD τ).loc main_arg4) : Vec Ideal S256x256x3x3 .f32) (m ((c : Thread nD τ).loc main_arg5) : Vec Ideal S256 .f32)
        (m ((c : Thread nD τ).loc main_arg6) : Vec Ideal S3x256x1x1 .f32) (m ((c : Thread nD τ).loc main_arg7) : Vec Ideal S3 .f32) := by
  funext i
  change S2x3x16x16.Idx at i
  unfold ended Pipeline.afterTail₀
  rw [eq_ix4 i]
  after_reads_at
  refine (congrFun ((Pipeline.withArrays_arr spec0 launch0.win.arr_inj c (V0 m c) (fun w => (dats m 0 c).arrAt w (cfgs 0).N) 14).trans
    (out_14 m c)) _).trans ?_
  refine (rows_of (R := 3) (T := 256) (S := 16) (off := 0) _ (i 0) (i 1) (i 2) (i 3) _).trans ?_
  exact headF_cls m c _ (fun n => at4 (m ((c : Thread nD τ).loc main_arg3) : Vec Ideal S2x256x16x16 .f32) n) _ _ _ _
    (imgF_of (by rfl) _ _ (fun n p k _ _ => V_v23 m c n p k) _) (i 1).isLt

/-- Result 7 is the box head of level 3. -/
theorem result_7 : (ended m c main_v24_7 : Vec Ideal S2x12x16x16 .f32)
    = headOf 16 12 (m ((c : Thread nD τ).loc main_arg3) : Vec Ideal S2x256x16x16 .f32) (m ((c : Thread nD τ).loc main_arg4) : Vec Ideal S256x256x3x3 .f32) (m ((c : Thread nD τ).loc main_arg5) : Vec Ideal S256 .f32)
        (m ((c : Thread nD τ).loc main_arg8) : Vec Ideal S12x256x1x1 .f32) (m ((c : Thread nD τ).loc main_arg9) : Vec Ideal S12 .f32) := by
  funext i
  change S2x12x16x16.Idx at i
  unfold ended Pipeline.afterTail₀
  rw [eq_ix4 i]
  after_reads_at
  refine (congrFun ((Pipeline.withArrays_arr spec0 launch0.win.arr_inj c (V0 m c) (fun w => (dats m 0 c).arrAt w (cfgs 0).N) 15).trans
    (out_15 m c)) _).trans ?_
  refine (rows_of (R := 12) (T := 256) (S := 16) (off := 3) _ (i 0) (i 1) (i 2) (i 3) _).trans ?_
  exact headF_box m c _ (fun n => at4 (m ((c : Thread nD τ).loc main_arg3) : Vec Ideal S2x256x16x16 .f32) n) _ _ _ _
    (imgF_of (by rfl) _ _ (fun n p k _ _ => V_v23 m c n p k) _) (i 1).isLt

/-- Every execution ends with the eight results as the host lines after the pipeline leave them and the arguments as they were. -/
theorem values (ρ : Dev nD → PrngReg) : θ_run defs (onTc (τ := τ) (main (F := Ideal))) ⟨m, fun _ => 0, ρ⟩ (fun r => ∀ c : Dev nD,
      r.2.mem ((c.tc : Thread nD τ).loc main_v24_0) = ended m c main_v24_0
      ∧ r.2.mem ((c.tc : Thread nD τ).loc main_v24_1) = ended m c main_v24_1
      ∧ r.2.mem ((c.tc : Thread nD τ).loc main_v24_2) = ended m c main_v24_2
      ∧ r.2.mem ((c.tc : Thread nD τ).loc main_v24_3) = ended m c main_v24_3
      ∧ r.2.mem ((c.tc : Thread nD τ).loc main_v24_4) = ended m c main_v24_4
      ∧ r.2.mem ((c.tc : Thread nD τ).loc main_v24_5) = ended m c main_v24_5
      ∧ r.2.mem ((c.tc : Thread nD τ).loc main_v24_6) = ended m c main_v24_6
      ∧ r.2.mem ((c.tc : Thread nD τ).loc main_v24_7) = ended m c main_v24_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h.1 c).2 main_v24_0 (Pipeline.mem_restRefs_of main_v24_0 (by decide) (by decide)),
      (h.1 c).2 main_v24_1 (Pipeline.mem_restRefs_of main_v24_1 (by decide) (by decide)),
      (h.1 c).2 main_v24_2 (Pipeline.mem_restRefs_of main_v24_2 (by decide) (by decide)),
      (h.1 c).2 main_v24_3 (Pipeline.mem_restRefs_of main_v24_3 (by decide) (by decide)),
      (h.1 c).2 main_v24_4 (Pipeline.mem_restRefs_of main_v24_4 (by decide) (by decide)),
      (h.1 c).2 main_v24_5 (Pipeline.mem_restRefs_of main_v24_5 (by decide) (by decide)),
      (h.1 c).2 main_v24_6 (Pipeline.mem_restRefs_of main_v24_6 (by decide) (by decide)),
      (h.1 c).2 main_v24_7 (Pipeline.mem_restRefs_of main_v24_7 (by decide) (by decide)),
      h.2 c⟩) (θ_run_and (run_main m ρ) (unchanged m ρ))

end Cert.KernelIdeal.Whole

end
-- ==== Proof.RefValue.lean ====
module

public import proofs.«01_k».proof.Proof.Gen.ReferenceIdeal.Run
public import proofs.«01_k».proof.Proof.Result

@[expose] public section

set_option maxRecDepth 16384

noncomputable section

/-!
The reference's eight results, element by element, are the heads of the arguments.
-/

namespace Cert.ReferenceIdeal.Value

open Cert.ReferenceIdeal Cert.ReferenceIdeal.Gen Cert.KernelIdeal.Core Cert.Rpn
open Idealize.ShloMosaic Idealize.ShloMosaic.TcCoe Idealize.SL.Sem

/-! ## One level, of any size -/

section Level

variable {S T : ℕ} [NeZero S] (X : (⟨4, ![2, 256, S, S]⟩ : Shape).Idx → EReal) (P : (⟨4, ![2, 256, T, T]⟩ : Shape).Idx → EReal)
  (W : (⟨4, ![256, 256, 3, 3]⟩ : Shape).Idx → EReal) (b : (⟨1, ![256]⟩ : Shape).Idx → EReal)

/-- The padded image at an element: the image inside the frame, zero on it. -/
theorem pad_px (n : Fin 2) (k : Fin 256) (y x : ℕ) (z : EReal) (hz : z = 0) (p : Prop) [Decidable p]
    (hp : p ↔ 1 ≤ y ∧ y ≤ S ∧ 1 ≤ x ∧ x ≤ S) (f : p → EReal)
    (hf : ∀ h (hy : y - 1 < S) (hx : x - 1 < S), f h = X (ix4 n k ⟨y - 1, hy⟩ ⟨x - 1, hx⟩)) :
    (if h : p then f h else z) = px S (at4 X n.val k.val) y x := by
  unfold px
  by_cases h : p
  · have h' := hp.mp h
    have hy : y - 1 < S := by omega
    have hx : x - 1 < S := by omega
    rw [dif_pos h, if_pos h', hf h hy hx]
    exact at4_eq _ _ _ _ _ _ _ _ _ rfl rfl rfl rfl
  · rw [dif_neg h, if_neg (fun q => h (hp.mpr q)), hz]

/-- The elements of the padded image that come from the image. -/
theorem pad_range (S : ℕ) (n : Fin 2) (k : Fin 256) (y x : Fin T) :
    (∀ a : Fin 4, (![0, 0, 1, 1] : Fin 4 → ℕ) a ≤ (ix4 n k y x a).val
        ∧ ((ix4 n k y x a).val - (![0, 0, 1, 1] : Fin 4 → ℕ) a) % ((![0, 0, 0, 0] : Fin 4 → ℕ) a + 1) = 0
        ∧ ((ix4 n k y x a).val - (![0, 0, 1, 1] : Fin 4 → ℕ) a) / ((![0, 0, 0, 0] : Fin 4 → ℕ) a + 1) < (![2, 256, S, S] : Fin 4 → ℕ) a)
      ↔ 1 ≤ y.val ∧ y.val ≤ S ∧ 1 ≤ x.val ∧ x.val ≤ S := by
  have e (f : Fin 4 → Prop) : (∀ a, f a) ↔ f 0 ∧ f 1 ∧ f 2 ∧ f 3 := by
    refine ⟨fun h => ⟨h 0, h 1, h 2, h 3⟩, fun h a => ?_⟩
    fin_cases a
    exacts [h.1, h.2.1, h.2.2.1, h.2.2.2]
  rw [e]
  show ((0 ≤ n.val ∧ (n.val - 0) % (0 + 1) = 0 ∧ (n.val - 0) / (0 + 1) < 2) ∧ (0 ≤ k.val ∧ (k.val - 0) % (0 + 1) = 0 ∧ (k.val - 0) / (0 + 1) < 256)
    ∧ (1 ≤ y.val ∧ (y.val - 1) % (0 + 1) = 0 ∧ (y.val - 1) / (0 + 1) < S) ∧ (1 ≤ x.val ∧ (x.val - 1) % (0 + 1) = 0 ∧ (x.val - 1) / (0 + 1) < S)) ↔ _
  have := n.isLt
  have := k.isLt
  simp only [Nat.zero_add, Nat.mod_one, Nat.div_one, true_and]
  omega

variable (hP : ∀ (n : Fin 2) (k : Fin 256) (y x : Fin T), P (ix4 n k y x) = px S (at4 X n.val k.val) y.val x.val)

include hP in
/-- One of the reference's nine products is one tap. -/
theorem tap_of (n : Fin 2) (o : Fin 256) (y x : ℕ) (ty tx : Fin T) (dy dx : Fin 3) (hy : ty.val = y + dy.val) (hx : tx.val = x + dx.val) :
    ∑ c : Fin 256, P (ix4 n c ty tx) * W (ix4 o c dy dx) = tap S (at4 X n.val) (at4 W) o.val y x dy.val dx.val := by
  unfold tap
  refine Finset.sum_congr rfl fun c _ => ?_
  rw [hP, hy, hx, mul_comm, at4_eq W o c dy dx _ _ _ _ rfl rfl rfl rfl]

include hP in
/-- The nine products, row by row, and the bias are the convolution. -/
theorem conv_of (n : Fin 2) (o : Fin 256) (y x : ℕ) (y0 y1 y2 x0 x1 x2 : Fin T) (hy0 : y0.val = y) (hy1 : y1.val = 1 + y) (hy2 : y2.val = 2 + y)
    (hx0 : x0.val = x) (hx1 : x1.val = 1 + x) (hx2 : x2.val = 2 + x) :
    ∑ c : Fin 256, P (ix4 n c y0 x0) * W (ix4 o c 0 0) + ∑ c : Fin 256, P (ix4 n c y0 x1) * W (ix4 o c 0 1)
        + ∑ c : Fin 256, P (ix4 n c y0 x2) * W (ix4 o c 0 2) + ∑ c : Fin 256, P (ix4 n c y1 x0) * W (ix4 o c 1 0)
        + ∑ c : Fin 256, P (ix4 n c y1 x1) * W (ix4 o c 1 1) + ∑ c : Fin 256, P (ix4 n c y1 x2) * W (ix4 o c 1 2)
        + ∑ c : Fin 256, P (ix4 n c y2 x0) * W (ix4 o c 2 0) + ∑ c : Fin 256, P (ix4 n c y2 x1) * W (ix4 o c 2 1)
        + ∑ c : Fin 256, P (ix4 n c y2 x2) * W (ix4 o c 2 2) + b (ix1 o)
      = conv S (at4 X n.val) (at4 W) (at1 b) o.val y x := by
  rw [conv_rows, tap_of X P W hP n o y x y0 x0 0 0 hy0 hx0, tap_of X P W hP n o y x y0 x1 0 1 hy0 (by rw [hx1, Nat.add_comm]; rfl),
    tap_of X P W hP n o y x y0 x2 0 2 hy0 (by rw [hx2, Nat.add_comm]; rfl), tap_of X P W hP n o y x y1 x0 1 0 (by rw [hy1, Nat.add_comm]; rfl) hx0,
    tap_of X P W hP n o y x y1 x1 1 1 (by rw [hy1, Nat.add_comm]; rfl) (by rw [hx1, Nat.add_comm]; rfl),
    tap_of X P W hP n o y x y1 x2 1 2 (by rw [hy1, Nat.add_comm]; rfl) (by rw [hx2, Nat.add_comm]; rfl),
    tap_of X P W hP n o y x y2 x0 2 0 (by rw [hy2, Nat.add_comm]; rfl) hx0,
    tap_of X P W hP n o y x y2 x1 2 1 (by rw [hy2, Nat.add_comm]; rfl) (by rw [hx1, Nat.add_comm]; rfl),
    tap_of X P W hP n o y x y2 x2 2 2 (by rw [hy2, Nat.add_comm]; rfl) (by rw [hx2, Nat.add_comm]; rfl), at1_eq b o _ rfl]
  rfl

/-- The rectified convolution against a head's rows, and the row's bias, are the head. -/
theorem head_of {R : ℕ} [NeZero R] (C : (⟨4, ![2, 256, S, S]⟩ : Shape).Idx → EReal)
    (hC : ∀ (n : Fin 2) (o : Fin 256) (y x : Fin S), C (ix4 n o y x) = max (conv S (at4 X n.val) (at4 W) (at1 b) o.val y.val x.val) 0)
    (hw : (⟨4, ![R, 256, 1, 1]⟩ : Shape).Idx → EReal) (hb : (⟨1, ![R]⟩ : Shape).Idx → EReal) (n : Fin 2) (k : Fin R) (y x : Fin S) :
    ∑ c : Fin 256, C (ix4 n c y x) * hw (ix4 k c 0 0) + hb (ix1 k) = headOf S R X W b hw hb (ix4 n k y x) := by
  unfold headOf head
  show _ = (∑ c : Fin 256, at4 hw k.val c.val 0 0 * max (conv S (at4 X n.val) (at4 W) (at1 b) c.val y.val x.val) 0) + at1 hb k.val
  rw [at1_eq hb k _ rfl]
  refine congrArg (· + at1 hb k.val) (Finset.sum_congr rfl fun c _ => ?_)
  rw [hC, mul_comm, at4_eq hw k c 0 0 _ _ _ _ rfl rfl rfl rfl]
  rfl

end Level

/-! ## The four levels -/

variable (V0 : Valuation τ sig (Elt Ideal))

/-- A zero word, read as a signed number, is zero. -/
theorem zero_word : FloatOps.sitofp (F := Ideal) FTy.f32 (0#32) = (0 : EReal) := by
  show (((0#32 : BitVec 32).toInt : ℝ) : EReal) = 0
  simp

/-- Level 0's padded image. -/
theorem pad_0 (n : Fin 2) (k : Fin 256) (y x : Fin 130) :
    (res_main_v0 V0 : Vec Ideal S2x256x130x130 .f32) (ix4 n k y x) = px 128 (at4 (V0 (Proc.devRef .tc main_arg0) : Vec Ideal S2x256x128x128 .f32) n.val k.val) y.val x.val := by
  pointwise [res_main_v0]
  exact pad_px (V0 (Proc.devRef .tc main_arg0) : Vec Ideal S2x256x128x128 .f32) n k y.val x.val _ zero_word _ (pad_range 128 n k y x) _ fun _ _ _ => rfl

/-- Level 0's rectified convolution. -/
theorem relu_0 (n : Fin 2) (o : Fin 256) (y x : Fin 128) :
    (res_main_v58 V0 : Vec Ideal S2x256x128x128 .f32) (ix4 n o y x)
      = max (conv 128 (at4 (V0 (Proc.devRef .tc main_arg0) : Vec Ideal S2x256x128x128 .f32) n.val) (at4 (V0 (Proc.devRef .tc main_arg4) : Vec Ideal S256x256x3x3 .f32)) (at1 (V0 (Proc.devRef .tc main_arg5) : Vec Ideal S256 .f32)) o.val y.val x.val) 0 := by
  pointwise [res_main_v58, res_main_v53]
  refine congrArg₂ (max : EReal → EReal → EReal) ?_ ?_
  · exact conv_of (V0 (Proc.devRef .tc main_arg0) : Vec Ideal S2x256x128x128 .f32) (res_main_v0 V0 : Vec Ideal S2x256x130x130 .f32) (V0 (Proc.devRef .tc main_arg4) : Vec Ideal S256x256x3x3 .f32) (V0 (Proc.devRef .tc main_arg5) : Vec Ideal S256 .f32) (pad_0 V0) n o y.val x.val _ _ _ _ _ _ rfl rfl rfl rfl rfl rfl
  · rfl

/-- Level 1's padded image. -/
theorem pad_1 (n : Fin 2) (k : Fin 256) (y x : Fin 66) :
    (res_main_v71 V0 : Vec Ideal S2x256x66x66 .f32) (ix4 n k y x) = px 64 (at4 (V0 (Proc.devRef .tc main_arg1) : Vec Ideal S2x256x64x64 .f32) n.val k.val) y.val x.val := by
  pointwise [res_main_v71]
  exact pad_px (V0 (Proc.devRef .tc main_arg1) : Vec Ideal S2x256x64x64 .f32) n k y.val x.val _ zero_word _ (pad_range 64 n k y x) _ fun _ _ _ => rfl

/-- Level 1's rectified convolution. -/
theorem relu_1 (n : Fin 2) (o : Fin 256) (y x : Fin 64) :
    (res_main_v129 V0 : Vec Ideal S2x256x64x64 .f32) (ix4 n o y x)
      = max (conv 64 (at4 (V0 (Proc.devRef .tc main_arg1) : Vec Ideal S2x256x64x64 .f32) n.val) (at4 (V0 (Proc.devRef .tc main_arg4) : Vec Ideal S256x256x3x3 .f32)) (at1 (V0 (Proc.devRef .tc main_arg5) : Vec Ideal S256 .f32)) o.val y.val x.val) 0 := by
  pointwise [res_main_v129, res_main_v127]
  refine congrArg₂ (max : EReal → EReal → EReal) ?_ ?_
  · exact conv_of (V0 (Proc.devRef .tc main_arg1) : Vec Ideal S2x256x64x64 .f32) (res_main_v71 V0 : Vec Ideal S2x256x66x66 .f32) (V0 (Proc.devRef .tc main_arg4) : Vec Ideal S256x256x3x3 .f32) (V0 (Proc.devRef .tc main_arg5) : Vec Ideal S256 .f32) (pad_1 V0) n o y.val x.val _ _ _ _ _ _ rfl rfl rfl rfl rfl rfl
  · rfl

/-- Level 2's padded image. -/
theorem pad_2 (n : Fin 2) (k : Fin 256) (y x : Fin 34) :
    (res_main_v142 V0 : Vec Ideal S2x256x34x34 .f32) (ix4 n k y x) = px 32 (at4 (V0 (Proc.devRef .tc main_arg2) : Vec Ideal S2x256x32x32 .f32) n.val k.val) y.val x.val := by
  pointwise [res_main_v142]
  exact pad_px (V0 (Proc.devRef .tc main_arg2) : Vec Ideal S2x256x32x32 .f32) n k y.val x.val _ zero_word _ (pad_range 32 n k y x) _ fun _ _ _ => rfl

/-- Level 2's rectified convolution. -/
theorem relu_2 (n : Fin 2) (o : Fin 256) (y x : Fin 32) :
    (res_main_v200 V0 : Vec Ideal S2x256x32x32 .f32) (ix4 n o y x)
      = max (conv 32 (at4 (V0 (Proc.devRef .tc main_arg2) : Vec Ideal S2x256x32x32 .f32) n.val) (at4 (V0 (Proc.devRef .tc main_arg4) : Vec Ideal S256x256x3x3 .f32)) (at1 (V0 (Proc.devRef .tc main_arg5) : Vec Ideal S256 .f32)) o.val y.val x.val) 0 := by
  pointwise [res_main_v200, res_main_v198]
  refine congrArg₂ (max : EReal → EReal → EReal) ?_ ?_
  · exact conv_of (V0 (Proc.devRef .tc main_arg2) : Vec Ideal S2x256x32x32 .f32) (res_main_v142 V0 : Vec Ideal S2x256x34x34 .f32) (V0 (Proc.devRef .tc main_arg4) : Vec Ideal S256x256x3x3 .f32) (V0 (Proc.devRef .tc main_arg5) : Vec Ideal S256 .f32) (pad_2 V0) n o y.val x.val _ _ _ _ _ _ rfl rfl rfl rfl rfl rfl
  · rfl

/-- Level 3's padded image. -/
theorem pad_3 (n : Fin 2) (k : Fin 256) (y x : Fin 18) :
    (res_main_v213 V0 : Vec Ideal S2x256x18x18 .f32) (ix4 n k y x) = px 16 (at4 (V0 (Proc.devRef .tc main_arg3) : Vec Ideal S2x256x16x16 .f32) n.val k.val) y.val x.val := by
  pointwise [res_main_v213]
  exact pad_px (V0 (Proc.devRef .tc main_arg3) : Vec Ideal S2x256x16x16 .f32) n k y.val x.val _ zero_word _ (pad_range 16 n k y x) _ fun _ _ _ => rfl

/-- Level 3's rectified convolution. -/
theorem relu_3 (n : Fin 2) (o : Fin 256) (y x : Fin 16) :
    (res_main_v271 V0 : Vec Ideal S2x256x16x16 .f32) (ix4 n o y x)
      = max (conv 16 (at4 (V0 (Proc.devRef .tc main_arg3) : Vec Ideal S2x256x16x16 .f32) n.val) (at4 (V0 (Proc.devRef .tc main_arg4) : Vec Ideal S256x256x3x3 .f32)) (at1 (V0 (Proc.devRef .tc main_arg5) : Vec Ideal S256 .f32)) o.val y.val x.val) 0 := by
  pointwise [res_main_v271, res_main_v269]
  refine congrArg₂ (max : EReal → EReal → EReal) ?_ ?_
  · exact conv_of (V0 (Proc.devRef .tc main_arg3) : Vec Ideal S2x256x16x16 .f32) (res_main_v213 V0 : Vec Ideal S2x256x18x18 .f32) (V0 (Proc.devRef .tc main_arg4) : Vec Ideal S256x256x3x3 .f32) (V0 (Proc.devRef .tc main_arg5) : Vec Ideal S256 .f32) (pad_3 V0) n o y.val x.val _ _ _ _ _ _ rfl rfl rfl rfl rfl rfl
  · rfl

/-- Result 0: the class head of level 0. -/
theorem result_0 :
    (addf (transpose S2x3x128x128 [0, 3, 1, 2] (Host.dotGeneral (φ₂ := .f32) dot_S2x256x128x128_S3x256_S2x128x128x3_1_1_023_0_n_n none (res_main_v58 V0) (shapeCast _ (V0 (Proc.devRef .tc main_arg6) : FVec Ideal S3x256x1x1 .f32) shapeCasts_S3x256x1x1_S3x256)) transposes_S2x128x128x3_S2x3x128x128_0_3_1_2) (broadcastInDim S2x3x128x128 ![0, 1, 2, 3] bcast_S1x3x1x1_S2x3x128x128_0_1_2_3 (broadcastInDim S1x3x1x1 ![1] bcast_S3_S1x3x1x1_1 (V0 (Proc.devRef .tc main_arg7) : FVec Ideal S3 .f32))) : Vec Ideal S2x3x128x128 .f32)
      = headOf 128 3 (V0 (Proc.devRef .tc main_arg0) : Vec Ideal S2x256x128x128 .f32) (V0 (Proc.devRef .tc main_arg4) : Vec Ideal S256x256x3x3 .f32) (V0 (Proc.devRef .tc main_arg5) : Vec Ideal S256 .f32)
        (V0 (Proc.devRef .tc main_arg6) : Vec Ideal S3x256x1x1 .f32) (V0 (Proc.devRef .tc main_arg7) : Vec Ideal S3 .f32) := by
  funext i
  change S2x3x128x128.Idx at i
  rw [eq_ix4 i]
  pointwise
  exact head_of _ _ _ _ (relu_0 V0) (V0 (Proc.devRef .tc main_arg6) : Vec Ideal S3x256x1x1 .f32) (V0 (Proc.devRef .tc main_arg7) : Vec Ideal S3 .f32) (i 0) (i 1) (i 2) (i 3)

/-- Result 1: the class head of level 1. -/
theorem result_1 :
    (addf (transpose S2x3x64x64 [0, 3, 1, 2] (Host.dotGeneral (φ₂ := .f32) dot_S2x256x64x64_S3x256_S2x64x64x3_1_1_023_0_n_n none (res_main_v129 V0) (shapeCast _ (V0 (Proc.devRef .tc main_arg6) : FVec Ideal S3x256x1x1 .f32) shapeCasts_S3x256x1x1_S3x256)) transposes_S2x64x64x3_S2x3x64x64_0_3_1_2) (broadcastInDim S2x3x64x64 ![0, 1, 2, 3] bcast_S1x3x1x1_S2x3x64x64_0_1_2_3 (broadcastInDim S1x3x1x1 ![1] bcast_S3_S1x3x1x1_1 (V0 (Proc.devRef .tc main_arg7) : FVec Ideal S3 .f32))) : Vec Ideal S2x3x64x64 .f32)
      = headOf 64 3 (V0 (Proc.devRef .tc main_arg1) : Vec Ideal S2x256x64x64 .f32) (V0 (Proc.devRef .tc main_arg4) : Vec Ideal S256x256x3x3 .f32) (V0 (Proc.devRef .tc main_arg5) : Vec Ideal S256 .f32)
        (V0 (Proc.devRef .tc main_arg6) : Vec Ideal S3x256x1x1 .f32) (V0 (Proc.devRef .tc main_arg7) : Vec Ideal S3 .f32) := by
  funext i
  change S2x3x64x64.Idx at i
  rw [eq_ix4 i]
  pointwise
  exact head_of _ _ _ _ (relu_1 V0) (V0 (Proc.devRef .tc main_arg6) : Vec Ideal S3x256x1x1 .f32) (V0 (Proc.devRef .tc main_arg7) : Vec Ideal S3 .f32) (i 0) (i 1) (i 2) (i 3)

/-- Result 2: the class head of level 2. -/
theorem result_2 :
    (addf (transpose S2x3x32x32 [0, 3, 1, 2] (Host.dotGeneral (φ₂ := .f32) dot_S2x256x32x32_S3x256_S2x32x32x3_1_1_023_0_n_n none (res_main_v200 V0) (shapeCast _ (V0 (Proc.devRef .tc main_arg6) : FVec Ideal S3x256x1x1 .f32) shapeCasts_S3x256x1x1_S3x256)) transposes_S2x32x32x3_S2x3x32x32_0_3_1_2) (broadcastInDim S2x3x32x32 ![0, 1, 2, 3] bcast_S1x3x1x1_S2x3x32x32_0_1_2_3 (broadcastInDim S1x3x1x1 ![1] bcast_S3_S1x3x1x1_1 (V0 (Proc.devRef .tc main_arg7) : FVec Ideal S3 .f32))) : Vec Ideal S2x3x32x32 .f32)
      = headOf 32 3 (V0 (Proc.devRef .tc main_arg2) : Vec Ideal S2x256x32x32 .f32) (V0 (Proc.devRef .tc main_arg4) : Vec Ideal S256x256x3x3 .f32) (V0 (Proc.devRef .tc main_arg5) : Vec Ideal S256 .f32)
        (V0 (Proc.devRef .tc main_arg6) : Vec Ideal S3x256x1x1 .f32) (V0 (Proc.devRef .tc main_arg7) : Vec Ideal S3 .f32) := by
  funext i
  change S2x3x32x32.Idx at i
  rw [eq_ix4 i]
  pointwise
  exact head_of _ _ _ _ (relu_2 V0) (V0 (Proc.devRef .tc main_arg6) : Vec Ideal S3x256x1x1 .f32) (V0 (Proc.devRef .tc main_arg7) : Vec Ideal S3 .f32) (i 0) (i 1) (i 2) (i 3)

/-- Result 3: the class head of level 3. -/
theorem result_3 :
    (addf (transpose S2x3x16x16 [0, 3, 1, 2] (Host.dotGeneral (φ₂ := .f32) dot_S2x256x16x16_S3x256_S2x16x16x3_1_1_023_0_n_n none (res_main_v271 V0) (shapeCast _ (V0 (Proc.devRef .tc main_arg6) : FVec Ideal S3x256x1x1 .f32) shapeCasts_S3x256x1x1_S3x256)) transposes_S2x16x16x3_S2x3x16x16_0_3_1_2) (broadcastInDim S2x3x16x16 ![0, 1, 2, 3] bcast_S1x3x1x1_S2x3x16x16_0_1_2_3 (broadcastInDim S1x3x1x1 ![1] bcast_S3_S1x3x1x1_1 (V0 (Proc.devRef .tc main_arg7) : FVec Ideal S3 .f32))) : Vec Ideal S2x3x16x16 .f32)
      = headOf 16 3 (V0 (Proc.devRef .tc main_arg3) : Vec Ideal S2x256x16x16 .f32) (V0 (Proc.devRef .tc main_arg4) : Vec Ideal S256x256x3x3 .f32) (V0 (Proc.devRef .tc main_arg5) : Vec Ideal S256 .f32)
        (V0 (Proc.devRef .tc main_arg6) : Vec Ideal S3x256x1x1 .f32) (V0 (Proc.devRef .tc main_arg7) : Vec Ideal S3 .f32) := by
  funext i
  change S2x3x16x16.Idx at i
  rw [eq_ix4 i]
  pointwise
  exact head_of _ _ _ _ (relu_3 V0) (V0 (Proc.devRef .tc main_arg6) : Vec Ideal S3x256x1x1 .f32) (V0 (Proc.devRef .tc main_arg7) : Vec Ideal S3 .f32) (i 0) (i 1) (i 2) (i 3)

/-- Result 4: the box head of level 0. -/
theorem result_4 :
    (addf (transpose S2x12x128x128 [0, 3, 1, 2] (Host.dotGeneral (φ₂ := .f32) dot_S2x256x128x128_S12x256_S2x128x128x12_1_1_023_0_n_n none (res_main_v58 V0) (shapeCast _ (V0 (Proc.devRef .tc main_arg8) : FVec Ideal S12x256x1x1 .f32) shapeCasts_S12x256x1x1_S12x256)) transposes_S2x128x128x12_S2x12x128x128_0_3_1_2) (broadcastInDim S2x12x128x128 ![0, 1, 2, 3] bcast_S1x12x1x1_S2x12x128x128_0_1_2_3 (broadcastInDim S1x12x1x1 ![1] bcast_S12_S1x12x1x1_1 (V0 (Proc.devRef .tc main_arg9) : FVec Ideal S12 .f32))) : Vec Ideal S2x12x128x128 .f32)
      = headOf 128 12 (V0 (Proc.devRef .tc main_arg0) : Vec Ideal S2x256x128x128 .f32) (V0 (Proc.devRef .tc main_arg4) : Vec Ideal S256x256x3x3 .f32) (V0 (Proc.devRef .tc main_arg5) : Vec Ideal S256 .f32)
        (V0 (Proc.devRef .tc main_arg8) : Vec Ideal S12x256x1x1 .f32) (V0 (Proc.devRef .tc main_arg9) : Vec Ideal S12 .f32) := by
  funext i
  change S2x12x128x128.Idx at i
  rw [eq_ix4 i]
  pointwise
  exact head_of _ _ _ _ (relu_0 V0) (V0 (Proc.devRef .tc main_arg8) : Vec Ideal S12x256x1x1 .f32) (V0 (Proc.devRef .tc main_arg9) : Vec Ideal S12 .f32) (i 0) (i 1) (i 2) (i 3)

/-- Result 5: the box head of level 1. -/
theorem result_5 :
    (addf (transpose S2x12x64x64 [0, 3, 1, 2] (Host.dotGeneral (φ₂ := .f32) dot_S2x256x64x64_S12x256_S2x64x64x12_1_1_023_0_n_n none (res_main_v129 V0) (shapeCast _ (V0 (Proc.devRef .tc main_arg8) : FVec Ideal S12x256x1x1 .f32) shapeCasts_S12x256x1x1_S12x256)) transposes_S2x64x64x12_S2x12x64x64_0_3_1_2) (broadcastInDim S2x12x64x64 ![0, 1, 2, 3] bcast_S1x12x1x1_S2x12x64x64_0_1_2_3 (broadcastInDim S1x12x1x1 ![1] bcast_S12_S1x12x1x1_1 (V0 (Proc.devRef .tc main_arg9) : FVec Ideal S12 .f32))) : Vec Ideal S2x12x64x64 .f32)
      = headOf 64 12 (V0 (Proc.devRef .tc main_arg1) : Vec Ideal S2x256x64x64 .f32) (V0 (Proc.devRef .tc main_arg4) : Vec Ideal S256x256x3x3 .f32) (V0 (Proc.devRef .tc main_arg5) : Vec Ideal S256 .f32)
        (V0 (Proc.devRef .tc main_arg8) : Vec Ideal S12x256x1x1 .f32) (V0 (Proc.devRef .tc main_arg9) : Vec Ideal S12 .f32) := by
  funext i
  change S2x12x64x64.Idx at i
  rw [eq_ix4 i]
  pointwise
  exact head_of _ _ _ _ (relu_1 V0) (V0 (Proc.devRef .tc main_arg8) : Vec Ideal S12x256x1x1 .f32) (V0 (Proc.devRef .tc main_arg9) : Vec Ideal S12 .f32) (i 0) (i 1) (i 2) (i 3)

/-- Result 6: the box head of level 2. -/
theorem result_6 :
    (addf (transpose S2x12x32x32 [0, 3, 1, 2] (Host.dotGeneral (φ₂ := .f32) dot_S2x256x32x32_S12x256_S2x32x32x12_1_1_023_0_n_n none (res_main_v200 V0) (shapeCast _ (V0 (Proc.devRef .tc main_arg8) : FVec Ideal S12x256x1x1 .f32) shapeCasts_S12x256x1x1_S12x256)) transposes_S2x32x32x12_S2x12x32x32_0_3_1_2) (broadcastInDim S2x12x32x32 ![0, 1, 2, 3] bcast_S1x12x1x1_S2x12x32x32_0_1_2_3 (broadcastInDim S1x12x1x1 ![1] bcast_S12_S1x12x1x1_1 (V0 (Proc.devRef .tc main_arg9) : FVec Ideal S12 .f32))) : Vec Ideal S2x12x32x32 .f32)
      = headOf 32 12 (V0 (Proc.devRef .tc main_arg2) : Vec Ideal S2x256x32x32 .f32) (V0 (Proc.devRef .tc main_arg4) : Vec Ideal S256x256x3x3 .f32) (V0 (Proc.devRef .tc main_arg5) : Vec Ideal S256 .f32)
        (V0 (Proc.devRef .tc main_arg8) : Vec Ideal S12x256x1x1 .f32) (V0 (Proc.devRef .tc main_arg9) : Vec Ideal S12 .f32) := by
  funext i
  change S2x12x32x32.Idx at i
  rw [eq_ix4 i]
  pointwise
  exact head_of _ _ _ _ (relu_2 V0) (V0 (Proc.devRef .tc main_arg8) : Vec Ideal S12x256x1x1 .f32) (V0 (Proc.devRef .tc main_arg9) : Vec Ideal S12 .f32) (i 0) (i 1) (i 2) (i 3)

/-- Result 7: the box head of level 3. -/
theorem result_7 :
    (addf (transpose S2x12x16x16 [0, 3, 1, 2] (Host.dotGeneral (φ₂ := .f32) dot_S2x256x16x16_S12x256_S2x16x16x12_1_1_023_0_n_n none (res_main_v271 V0) (shapeCast _ (V0 (Proc.devRef .tc main_arg8) : FVec Ideal S12x256x1x1 .f32) shapeCasts_S12x256x1x1_S12x256)) transposes_S2x16x16x12_S2x12x16x16_0_3_1_2) (broadcastInDim S2x12x16x16 ![0, 1, 2, 3] bcast_S1x12x1x1_S2x12x16x16_0_1_2_3 (broadcastInDim S1x12x1x1 ![1] bcast_S12_S1x12x1x1_1 (V0 (Proc.devRef .tc main_arg9) : FVec Ideal S12 .f32))) : Vec Ideal S2x12x16x16 .f32)
      = headOf 16 12 (V0 (Proc.devRef .tc main_arg3) : Vec Ideal S2x256x16x16 .f32) (V0 (Proc.devRef .tc main_arg4) : Vec Ideal S256x256x3x3 .f32) (V0 (Proc.devRef .tc main_arg5) : Vec Ideal S256 .f32)
        (V0 (Proc.devRef .tc main_arg8) : Vec Ideal S12x256x1x1 .f32) (V0 (Proc.devRef .tc main_arg9) : Vec Ideal S12 .f32) := by
  funext i
  change S2x12x16x16.Idx at i
  rw [eq_ix4 i]
  pointwise
  exact head_of _ _ _ _ (relu_3 V0) (V0 (Proc.devRef .tc main_arg8) : Vec Ideal S12x256x1x1 .f32) (V0 (Proc.devRef .tc main_arg9) : Vec Ideal S12 .f32) (i 0) (i 1) (i 2) (i 3)

end Cert.ReferenceIdeal.Value

end
-- ==== Proof.lean ====
/- The proof of the certificate's claims: hand-written. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.BitsFrame
public import proofs.«01_k».proof.Proof.Final
public import proofs.«01_k».proof.Proof.Outs
public import proofs.«01_k».proof.Proof.RefValue
public import Idealize.ShloMosaic.Adequacy
public import Idealize.ShloMosaic.Init
public import Idealize.ShloMosaic.Lib.Quiescent

@[expose] public section

noncomputable section

namespace Cert.Proof

open Idealize.ShloMosaic Idealize.SL.Sem

/-- The reference's frame: its run at its arguments; it declares no semaphore. -/
theorem frame_reference : Cert.quiescent_ReferenceIdeal := fun m ρ _ =>
  (θ_run Cert.ReferenceIdeal.defs _ _).mono (fun r h => ⟨fun c => (h c).2.2.2.2.2.2.2.2,
      Idealize.ShloMosaic.sem_eq_zero_of_no_sems (by decide) r.2⟩)
    (Cert.ReferenceIdeal.Value.run (F := Ideal) m ρ)

/-- Equal operands give equal heads. -/
theorem heads_agree (S R : ℕ) [NeZero S] [NeZero R] {X X' : (⟨4, ![2, 256, S, S]⟩ : Shape).Idx → EReal}
    {cw cw' : (⟨4, ![256, 256, 3, 3]⟩ : Shape).Idx → EReal} {cb cb' : (⟨1, ![256]⟩ : Shape).Idx → EReal}
    {hw hw' : (⟨4, ![R, 256, 1, 1]⟩ : Shape).Idx → EReal} {hb hb' : (⟨1, ![R]⟩ : Shape).Idx → EReal}
    (h0 : X = X') (h1 : cw = cw') (h2 : cb = cb') (h3 : hw = hw') (h4 : hb = hb') :
    Cert.Rpn.headOf S R X cw cb hw hb = Cert.Rpn.headOf S R X' cw' cb' hw' hb' := by
  rw [h0, h1, h2, h3, h4]

/-- On extended reals the kernel and the reference, launched on the same arguments, end with the same eight results: each
    level's class head and box head. -/
theorem algebraic : Cert.algebraic_KernelIdeal_ReferenceIdeal := by
  intro m g m' g' _ hargs
  refine ⟨fun c => Cert.KernelIdeal.Whole.ended m c Cert.KernelIdeal.main_v24_0,
    fun c => Cert.KernelIdeal.Whole.ended m c Cert.KernelIdeal.main_v24_1,
    fun c => Cert.KernelIdeal.Whole.ended m c Cert.KernelIdeal.main_v24_2,
    fun c => Cert.KernelIdeal.Whole.ended m c Cert.KernelIdeal.main_v24_3,
    fun c => Cert.KernelIdeal.Whole.ended m c Cert.KernelIdeal.main_v24_4,
    fun c => Cert.KernelIdeal.Whole.ended m c Cert.KernelIdeal.main_v24_5,
    fun c => Cert.KernelIdeal.Whole.ended m c Cert.KernelIdeal.main_v24_6,
    fun c => Cert.KernelIdeal.Whole.ended m c Cert.KernelIdeal.main_v24_7,
    Cert.KernelIdeal.Whole.values m g,
    (θ_run Cert.ReferenceIdeal.defs _ _).mono (fun r h c => ?_) (Cert.ReferenceIdeal.Value.run (F := Ideal) m' g')⟩
  obtain ⟨a0, a1, a2, a3, a4, a5, a6, a7, a8, a9⟩ := hargs c
  obtain ⟨r0, r1, r2, r3, r4, r5, r6, r7, rest⟩ := h c
  exact ⟨r0.trans ((Cert.ReferenceIdeal.Value.result_0 _).trans ((heads_agree 128 3 a0 a4 a5 a6 a7).trans (Cert.KernelIdeal.Whole.result_0 m c).symm)),
    r1.trans ((Cert.ReferenceIdeal.Value.result_1 _).trans ((heads_agree 64 3 a1 a4 a5 a6 a7).trans (Cert.KernelIdeal.Whole.result_1 m c).symm)),
    r2.trans ((Cert.ReferenceIdeal.Value.result_2 _).trans ((heads_agree 32 3 a2 a4 a5 a6 a7).trans (Cert.KernelIdeal.Whole.result_2 m c).symm)),
    r3.trans ((Cert.ReferenceIdeal.Value.result_3 _).trans ((heads_agree 16 3 a3 a4 a5 a6 a7).trans (Cert.KernelIdeal.Whole.result_3 m c).symm)),
    r4.trans ((Cert.ReferenceIdeal.Value.result_4 _).trans ((heads_agree 128 12 a0 a4 a5 a8 a9).trans (Cert.KernelIdeal.Whole.result_4 m c).symm)),
    r5.trans ((Cert.ReferenceIdeal.Value.result_5 _).trans ((heads_agree 64 12 a1 a4 a5 a8 a9).trans (Cert.KernelIdeal.Whole.result_5 m c).symm)),
    r6.trans ((Cert.ReferenceIdeal.Value.result_6 _).trans ((heads_agree 32 12 a2 a4 a5 a8 a9).trans (Cert.KernelIdeal.Whole.result_6 m c).symm)),
    r7.trans ((Cert.ReferenceIdeal.Value.result_7 _).trans ((heads_agree 16 12 a3 a4 a5 a8 a9).trans (Cert.KernelIdeal.Whole.result_7 m c).symm)),
    rest⟩

/-- The certificate's claims. -/
theorem claim : Cert.Claim := ⟨Cert.Kernel.Gen.facts, Cert.KernelIdeal.Gen.facts, Cert.ReferenceIdeal.Gen.facts,
  fun m ρ _ => Cert.Kernel.Whole.frame m ρ, fun m ρ _ => Cert.KernelIdeal.Whole.frame m ρ, frame_reference, trivial, algebraic⟩

end Cert.Proof

end
